-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.sign_bit.Statement Cert.KernelIdeal.S1x256 .f32
  ∧ IdealRules.sign_bit.Statement Cert.KernelIdeal.S511x256 .f32

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_1)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_1) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x256x256 : Shape := ⟨3, ![32, 256, 256]⟩
abbrev S256 : Shape := ⟨1, ![256]⟩
abbrev S511x256 : Shape := ⟨2, ![511, 256]⟩
abbrev S8192x256 : Shape := ⟨2, ![8192, 256]⟩
abbrev S1x256 : Shape := ⟨2, ![1, 256]⟩
abbrev S8192x512 : Shape := ⟨2, ![8192, 512]⟩
abbrev S32x256 : Shape := ⟨2, ![32, 256]⟩
abbrev S2048x256 : Shape := ⟨2, ![2048, 256]⟩
abbrev S2048x512 : Shape := ⟨2, ![2048, 512]⟩
abbrev S8x256 : Shape := ⟨2, ![8, 256]⟩
abbrev S512x512 : Shape := ⟨2, ![512, 512]⟩
abbrev S1x512 : Shape := ⟨2, ![1, 512]⟩
abbrev S512x256 : Shape := ⟨2, ![512, 256]⟩
abbrev S256x512 : Shape := ⟨2, ![256, 512]⟩
abbrev S2048 : Shape := ⟨1, ![2048]⟩
abbrev S2048x1 : Shape := ⟨2, ![2048, 1]⟩
abbrev S32x256x512 : Shape := ⟨3, ![32, 256, 512]⟩

abbrev nBuf : Space → Nat
  | .hbm => 8
  | .vmem => 10
  | .smem => 0
  | _ => 0

abbrev bufTy : (tb : Table) → Fin (tcTables nBuf tb) → BufTy
  | .hbm, ⟨0, _⟩ => ⟨S32x256x256, .f32⟩
  | .hbm, ⟨1, _⟩ => ⟨S256, .f32⟩
  | .hbm, ⟨2, _⟩ => ⟨S511x256, .f32⟩
  | .hbm, ⟨3, _⟩ => ⟨S8192x256, .f32⟩
  | .hbm, ⟨4, _⟩ => ⟨S1x256, .f32⟩
  | .hbm, ⟨5, _⟩ => ⟨S8192x512, .i32⟩
  | .hbm, ⟨6, _⟩ => ⟨S32x256, .i32⟩
  | .hbm, ⟨7, _⟩ => ⟨S32x256x512, .i32⟩
  | .local _ .vmem, ⟨0, _⟩ => ⟨S2048x256, .f32⟩
  | .local _ .vmem, ⟨1, _⟩ => ⟨S2048x256, .f32⟩
  | .local _ .vmem, ⟨2, _⟩ => ⟨S1x256, .f32⟩
  | .local _ .vmem, ⟨3, _⟩ => ⟨S511x256, .f32⟩
  | .local _ .vmem, ⟨4, _⟩ => ⟨S2048x512, .i32⟩
  | .local _ .vmem, ⟨5, _⟩ => ⟨S2048x512, .i32⟩
  | .local _ .vmem, ⟨6, _⟩ => ⟨S8x256, .i32⟩
  | .local _ .vmem, ⟨7, _⟩ => ⟨S8x256, .i32⟩
  | .local _ .vmem, ⟨8, _⟩ => ⟨S512x512, .bf16⟩
  | .local _ .vmem, ⟨9, _⟩ => ⟨S1x512, .f32⟩
  | _, _ => ⟨S32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [BitOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S511x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S32x256x256 : Shape := ⟨3, ![32, 256, 256]⟩
abbrev S256 : Shape := ⟨1, ![256]⟩
abbrev S511x256 : Shape := ⟨2, ![511, 256]⟩
abbrev S_ : Shape := ⟨0, ![]⟩
abbrev S32x256x256x1 : Shape := ⟨4, ![32, 256, 256, 1]⟩
abbrev S32x256x256x2 : Shape := ⟨4, ![32, 256, 256, 2]⟩
abbrev S8192x512 : Shape := ⟨2, ![8192, 512]⟩
abbrev S1x256 : Shape := ⟨2, ![1, 256]⟩
abbrev S512x256 : Shape := ⟨2, ![512, 256]⟩
abbrev S512x256x1 : Shape := ⟨3, ![512, 256, 1]⟩
abbrev S512x256x2 : Shape := ⟨3, ![512, 256, 2]⟩
abbrev S512x512 : Shape := ⟨2, ![512, 512]⟩
abbrev S8192 : Shape := ⟨1, ![8192]⟩
abbrev S8192x1 : Shape := ⟨2, ![8192, 1]⟩
abbrev S512 : Shape := ⟨1, ![512]⟩
abbrev S1x512 : Shape := ⟨2, ![1, 512]⟩
abbrev S32x256x512 : Shape := ⟨3, ![32, 256, 512]⟩
abbrev S32x256 : Shape := ⟨2, ![32, 256]⟩

abbrev nBuf : Space → Nat
  | .hbm => 63
  | .vmem => 0
  | .smem => 0
  | _ => 0

abbrev bufTy : (tb : Table) → Fin (tcTables nBuf tb) → BufTy
  | .hbm, ⟨0, _⟩ => ⟨S32x256x256, .f32⟩
  | .hbm, ⟨1, _⟩ => ⟨S256, .f32⟩
  | .hbm, ⟨2, _⟩ => ⟨S511x256, .f32⟩
  | .hbm, ⟨3, _⟩ => ⟨S32x256x256, .f32⟩
  | .hbm, ⟨4, _⟩ => ⟨S_, .f32⟩
  | .hbm, ⟨5, _⟩ => ⟨S32x256x256, .f32⟩
  | .hbm, ⟨6, _⟩ => ⟨S32x256x256, .i1⟩
  | .hbm, ⟨7, _⟩ => ⟨S_, .f32⟩
  | .hbm, ⟨8, _⟩ => ⟨S32x256x256, .f32⟩
  | .hbm, ⟨9, _⟩ => ⟨S32x256x256, .i1⟩
  | .hbm, ⟨10, _⟩ => ⟨S32x256x256x1, .i1⟩
  | .hbm, ⟨11, _⟩ => ⟨S32x256x256x1, .i1⟩
  | .hbm, ⟨12, _⟩ => ⟨S32x256x256x2, .i1⟩
  | .hbm, ⟨13, _⟩ => ⟨S32x256x256x2, .f32⟩
  | .hbm, ⟨14, _⟩ => ⟨S8192x512, .f32⟩
  | .hbm, ⟨15, _⟩ => ⟨S256, .f32⟩
  | .hbm, ⟨16, _⟩ => ⟨S511x256, .f32⟩
  | .hbm, ⟨17, _⟩ => ⟨S1x256, .f32⟩
  | .hbm, ⟨18, _⟩ => ⟨S511x256, .f32⟩
  | .hbm, ⟨19, _⟩ => ⟨S_, .f32⟩
  | .hbm, ⟨20, _⟩ => ⟨S511x256, .f32⟩
  | .hbm, ⟨21, _⟩ => ⟨S511x256, .f32⟩
  | .hbm, ⟨22, _⟩ => ⟨S511x256, .f32⟩
  | .hbm, ⟨23, _⟩ => ⟨S511x256, .f32⟩
  | .hbm, ⟨24, _⟩ => ⟨S511x256, .f32⟩
  | .hbm, ⟨25, _⟩ => ⟨S511x256, .f32⟩
  | .hbm, ⟨26, _⟩ => ⟨S511x256, .f32⟩
  | .hbm, ⟨27, _⟩ => ⟨S511x256, .f32⟩
  | .hbm, ⟨28, _⟩ => ⟨S1x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .i1⟩
  | .hbm, ⟨33, _⟩ => ⟨S_, .f32⟩
  | .hbm, ⟨34, _⟩ => ⟨S512x256, .f32⟩
  | .hbm, ⟨35, _⟩ => ⟨S512x256, .i1⟩
  | .hbm, ⟨36, _⟩ => ⟨S512x256x1, .i1⟩
  | .hbm, ⟨37, _⟩ => ⟨S512x256x1, .i1⟩
  | .hbm, ⟨38, _⟩ => ⟨S512x256x2, .i1⟩
  | .hbm, ⟨39, _⟩ => ⟨S512x256x2, .f32⟩
  | .hbm, ⟨40, _⟩ => ⟨S512x512, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S512, .f32⟩
  | .hbm, ⟨46, _⟩ => ⟨S1x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S512x512, .f32⟩
  | .hbm, ⟨51, _⟩ => ⟨S8192x512, .f32⟩
  | .hbm, ⟨52, _⟩ => ⟨S_, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S32x256x512, .f32⟩
  | .hbm, ⟨57, _⟩ => ⟨S32x256x512, .i32⟩
  | .hbm, ⟨58, _⟩ => ⟨S32x256x512, .i32⟩
  | .hbm, ⟨59, _⟩ => ⟨S_, .i32⟩
  | .hbm, ⟨60, _⟩ => ⟨S_, .i32⟩
  | .hbm, ⟨61, _⟩ => ⟨S32x256, .i32⟩
  | .hbm, ⟨62, _⟩ => ⟨S32x256, .i32⟩
  | _, _ => ⟨S32x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_call0_v0 : Ref sig .tc := ⟨.hbm, 58, rfl⟩
abbrev main_call0_c : Ref sig .tc := ⟨.hbm, 59, rfl⟩
abbrev main_call0_c_0 : Ref sig .tc := ⟨.hbm, 60, rfl⟩
abbrev main_call0_v1_0 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Proof.RefRun.lean ====
/- The reference program as a list of host operations, and what it leaves in its two result buffers, as terms of the
   three arguments: the bits of the rows, the signatures and their bits, the table of distances, and the position of
   the least distance of each row. -/
module

public import proofs.«01_k».proof.Proof.Gen.ReferenceIdeal
public import Idealize.ShloMosaic.Lib.StableHlo.Run
public import Idealize.ShloMosaic.Lib.Quiescent

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages of the reference, as functions of the arguments -/

/-- Two tables of flags side by side on a new last axis, for the rows. -/
def stackX (a b : IVec S32x256x256x1 1) : IVec S32x256x256x2 1 :=
  concatenate S32x256x256x2 3 [⟨S32x256x256x1, a⟩, ⟨S32x256x256x1, b⟩] concatenates_S32x256x256x1_S32x256x256x1_S32x256x256x2_d3

/-- One row above 511 others. -/
def stackRows (a : FVec F S1x256 .f32) (b : FVec F S511x256 .f32) : FVec F S512x256 .f32 :=
  concatenate S512x256 0 [⟨S1x256, a⟩, ⟨S511x256, b⟩] concatenates_S1x256_S511x256_S512x256_d0

/-- Two tables of flags side by side on a new last axis, for the signatures. -/
def stackS (a b : IVec S512x256x1 1) : IVec S512x256x2 1 :=
  concatenate S512x256x2 2 [⟨S512x256x1, a⟩, ⟨S512x256x1, b⟩] concatenates_S512x256x1_S512x256x1_S512x256x2_d2

/-- Is the sign of each entry of the rows positive? -/
def posX (x : FVec F S32x256x256 .f32) : IVec S32x256x256 1 :=
  cmpf .ogt (Host.sign x) (broadcastInDim S32x256x256 ![] bcast_S_S32x256x256 (constant S_ .f32 0x00000000#32))

/-- Is the sign of each entry of the rows negative? -/
def negX (x : FVec F S32x256x256 .f32) : IVec S32x256x256 1 :=
  cmpf .olt (Host.sign x) (broadcastInDim S32x256x256 ![] bcast_S_S32x256x256 (constant S_ .f32 0x00000000#32))

/-- The bits of the rows: for each of the 8192 rows, 256 interleaved pairs (positive, negative). -/
def xBits (x : FVec F S32x256x256 .f32) : FVec F S8192x512 .f32 :=
  shapeCast S8192x512 (uitofp .f32 (stackX (broadcastInDim S32x256x256x1 ![0, 1, 2] bcast_S32x256x256_S32x256x256x1_0_1_2 (posX x))
    (broadcastInDim S32x256x256x1 ![0, 1, 2] bcast_S32x256x256_S32x256x256x1_0_1_2 (negX x)))) shapeCasts_S32x256x256x2_S8192x512

/-- The sign of the base, as one row. -/
def baseRow (b : FVec F S256 .f32) : FVec F S1x256 .f32 :=
  broadcastInDim S1x256 ![1] bcast_S256_S1x256_1 (Host.sign b)

/-- The 511 signatures derived from the base by the deltas: the sign of `b (1 - |d|) + d |d|`, for `b` and `d` the
    signs of the base and of the delta. -/
def sigRows (b : FVec F S256 .f32) (d : FVec F S511x256 .f32) : FVec F S511x256 .f32 :=
  Host.sign (addf (mulf (broadcastInDim S511x256 ![0, 1] bcast_S1x256_S511x256_0_1 (baseRow b))
      (subf (broadcastInDim S511x256 ![] bcast_S_S511x256 (constant S_ .f32 0x3F800000#32)) (Host.absf (Host.sign d))))
    (mulf (Host.sign d) (Host.absf (Host.sign d))))

/-- All 512 signatures. -/
def sigs (b : FVec F S256 .f32) (d : FVec F S511x256 .f32) : FVec F S512x256 .f32 :=
  stackRows (baseRow b) (sigRows b d)

/-- The bits of a table of signatures: for each of the 512, 256 interleaved pairs (positive, negative). -/
def sBits (s : FVec F S512x256 .f32) : FVec F S512x512 .f32 :=
  shapeCast S512x512 (uitofp .f32 (stackS
    (broadcastInDim S512x256x1 ![0, 1] bcast_S512x256_S512x256x1_0_1 (cmpf .ogt s (broadcastInDim S512x256 ![] bcast_S_S512x256 (constant S_ .f32 0x00000000#32))))
    (broadcastInDim S512x256x1 ![0, 1] bcast_S512x256_S512x256x1_0_1 (cmpf .olt s (broadcastInDim S512x256 ![] bcast_S_S512x256 (constant S_ .f32 0x00000000#32))))))
    shapeCasts_S512x256x2_S512x512

/-- The distances of rows of bits to rows of bits: the two numbers of bits, less twice the number of shared ones. -/
def distF (x : FVec F S8192x512 .f32) (s : FVec F S512x512 .f32) : FVec F S8192x512 .f32 :=
  subf (addf (broadcastInDim S8192x512 ![0, 1] bcast_S8192x1_S8192x512_0_1 (broadcastInDim S8192x1 ![0] bcast_S8192_S8192x1_0
          (Host.reduceAdd x (constant S_ .f32 0x00000000#32) reducesTo_S8192x512_S8192_d1 h_S_)))
        (broadcastInDim S8192x512 ![0, 1] bcast_S1x512_S8192x512_0_1 (broadcastInDim S1x512 ![1] bcast_S512_S1x512_1
          (Host.reduceAdd s (constant S_ .f32 0x00000000#32) reducesTo_S512x512_S512_d1 h_S_))))
    (mulf (broadcastInDim S8192x512 ![] bcast_S_S8192x512 (constant S_ .f32 0x40000000#32))
      (Host.dotGeneral dot_S8192x512_S512x512_S8192x512_1_0_0_1_n_n none x (transpose S512x512 [1, 0] s transposes_S512x512_S512x512_1_0)))

/-- The second result: the distances, as integers. -/
def dist (x : FVec F S32x256x256 .f32) (b : FVec F S256 .f32) (d : FVec F S511x256 .f32) : IVec S32x256x512 32 :=
  fptosi 32 (shapeCast S32x256x512 (distF (xBits x) (sBits (sigs b d))) shapeCasts_S8192x512_S32x256x512)

/-- The first result: per row the position the argument-minimum reduction of the distances ends with. -/
def argMin (y : IVec S32x256x512 32) : IVec S32x256 32 := fun j =>
  (Host.reduce2 reducer_argmin_i32_i32 y (iotaInDim S32x256x512 32 2) (constantI S_ 32 2147483647#32) (constantI S_ 32 0#32)
    reducesTo_S32x256x512_S32x256_d2 h_S_ j).2

/-! ## The program as a list of operations, and its run -/

/-- The reference's 60 host operations, in order. -/
abbrev ops : List (HloOp τ sig (Elt F)) :=
  [ unary main_arg0 main_v0 (Host.sign : (⟨S32x256x256, .f32⟩ : BufTy).Contents (Elt F) → (⟨S32x256x256, .f32⟩ : BufTy).Contents (Elt F)),
    nullary main_cst (constant S_ .f32 0x00000000#32),
    unary main_cst main_v1 (broadcastInDim S32x256x256 ![] bcast_S_S32x256x256 : (⟨S_, .f32⟩ : BufTy).Contents (Elt F) → (⟨S32x256x256, .f32⟩ : BufTy).Contents (Elt F)),
    binary main_v0 main_v1 main_v2 (cmpf .ogt : (⟨S32x256x256, .f32⟩ : BufTy).Contents (Elt F) → (⟨S32x256x256, .f32⟩ : BufTy).Contents (Elt F) → (⟨S32x256x256, .i1⟩ : BufTy).Contents (Elt F)),
    nullary main_cst_0 (constant S_ .f32 0x00000000#32),
    unary main_cst_0 main_v3 (broadcastInDim S32x256x256 ![] bcast_S_S32x256x256 : (⟨S_, .f32⟩ : BufTy).Contents (Elt F) → (⟨S32x256x256, .f32⟩ : BufTy).Contents (Elt F)),
    binary main_v0 main_v3 main_v4 (cmpf .olt : (⟨S32x256x256, .f32⟩ : BufTy).Contents (Elt F) → (⟨S32x256x256, .f32⟩ : BufTy).Contents (Elt F) → (⟨S32x256x256, .i1⟩ : BufTy).Contents (Elt F)),
    unary main_v2 main_v5 (broadcastInDim S32x256x256x1 ![0, 1, 2] bcast_S32x256x256_S32x256x256x1_0_1_2 : (⟨S32x256x256, .i1⟩ : BufTy).Contents (Elt F) → (⟨S32x256x256x1, .i1⟩ : BufTy).Contents (Elt F)),
    unary main_v4 main_v6 (broadcastInDim S32x256x256x1 ![0, 1, 2] bcast_S32x256x256_S32x256x256x1_0_1_2 : (⟨S32x256x256, .i1⟩ : BufTy).Contents (Elt F) → (⟨S32x256x256x1, .i1⟩ : BufTy).Contents (Elt F)),
    binary main_v5 main_v6 main_v7 stackX,
    unary main_v7 main_v8 (uitofp .f32 : (⟨S32x256x256x2, .i1⟩ : BufTy).Contents (Elt F) → (⟨S32x256x256x2, .f32⟩ : BufTy).Contents (Elt F)),
    reshape main_v8 main_v9 (rfl : (.f32 : EltTy) = .f32) shapeCasts_S32x256x256x2_S8192x512,
    unary main_arg1 main_v10 (Host.sign : (⟨S256, .f32⟩ : BufTy).Contents (Elt F) → (⟨S256, .f32⟩ : BufTy).Contents (Elt F)),
    unary main_arg2 main_v11 (Host.sign : (⟨S511x256, .f32⟩ : BufTy).Contents (Elt F) → (⟨S511x256, .f32⟩ : BufTy).Contents (Elt F)),
    unary main_v10 main_v12 (broadcastInDim S1x256 ![1] bcast_S256_S1x256_1 : (⟨S256, .f32⟩ : BufTy).Contents (Elt F) → (⟨S1x256, .f32⟩ : BufTy).Contents (Elt F)),
    unary main_v11 main_v13 (Host.absf : (⟨S511x256, .f32⟩ : BufTy).Contents (Elt F) → (⟨S511x256, .f32⟩ : BufTy).Contents (Elt F)),
    nullary main_cst_1 (constant S_ .f32 0x3F800000#32),
    unary main_cst_1 main_v14 (broadcastInDim S511x256 ![] bcast_S_S511x256 : (⟨S_, .f32⟩ : BufTy).Contents (Elt F) → (⟨S511x256, .f32⟩ : BufTy).Contents (Elt F)),
    binary main_v14 main_v13 main_v15 (subf : (⟨S511x256, .f32⟩ : BufTy).Contents (Elt F) → (⟨S511x256, .f32⟩ : BufTy).Contents (Elt F) → (⟨S511x256, .f32⟩ : BufTy).Contents (Elt F)),
    unary main_v12 main_v16 (broadcastInDim S511x256 ![0, 1] bcast_S1x256_S511x256_0_1 : (⟨S1x256, .f32⟩ : BufTy).Contents (Elt F) → (⟨S511x256, .f32⟩ : BufTy).Contents (Elt F)),
    binary main_v16 main_v15 main_v17 (mulf : (⟨S511x256, .f32⟩ : BufTy).Contents (Elt F) → (⟨S511x256, .f32⟩ : BufTy).Contents (Elt F) → (⟨S511x256, .f32⟩ : BufTy).Contents (Elt F)),
    unary main_v11 main_v18 (Host.absf : (⟨S511x256, .f32⟩ : BufTy).Contents (Elt F) → (⟨S511x256, .f32⟩ : BufTy).Contents (Elt F)),
    binary main_v11 main_v18 main_v19 (mulf : (⟨S511x256, .f32⟩ : BufTy).Contents (Elt F) → (⟨S511x256, .f32⟩ : BufTy).Contents (Elt F) → (⟨S511x256, .f32⟩ : BufTy).Contents (Elt F)),
    binary main_v17 main_v19 main_v20 (addf : (⟨S511x256, .f32⟩ : BufTy).Contents (Elt F) → (⟨S511x256, .f32⟩ : BufTy).Contents (Elt F) → (⟨S511x256, .f32⟩ : BufTy).Contents (Elt F)),
    unary main_v20 main_v21 (Host.sign : (⟨S511x256, .f32⟩ : BufTy).Contents (Elt F) → (⟨S511x256, .f32⟩ : BufTy).Contents (Elt F)),
    unary main_v10 main_v22 (broadcastInDim S1x256 ![1] bcast_S256_S1x256_1 : (⟨S256, .f32⟩ : BufTy).Contents (Elt F) → (⟨S1x256, .f32⟩ : BufTy).Contents (Elt F)),
    binary main_v22 main_v21 main_v23 (stackRows (F := F)),
    nullary main_cst_2 (constant S_ .f32 0x00000000#32),
    unary main_cst_2 main_v24 (broadcastInDim S512x256 ![] bcast_S_S512x256 : (⟨S_, .f32⟩ : BufTy).Contents (Elt F) → (⟨S512x256, .f32⟩ : BufTy).Contents (Elt F)),
    binary main_v23 main_v24 main_v25 (cmpf .ogt : (⟨S512x256, .f32⟩ : BufTy).Contents (Elt F) → (⟨S512x256, .f32⟩ : BufTy).Contents (Elt F) → (⟨S512x256, .i1⟩ : BufTy).Contents (Elt F)),
    nullary main_cst_3 (constant S_ .f32 0x00000000#32),
    unary main_cst_3 main_v26 (broadcastInDim S512x256 ![] bcast_S_S512x256 : (⟨S_, .f32⟩ : BufTy).Contents (Elt F) → (⟨S512x256, .f32⟩ : BufTy).Contents (Elt F)),
    binary main_v23 main_v26 main_v27 (cmpf .olt : (⟨S512x256, .f32⟩ : BufTy).Contents (Elt F) → (⟨S512x256, .f32⟩ : BufTy).Contents (Elt F) → (⟨S512x256, .i1⟩ : BufTy).Contents (Elt F)),
    unary main_v25 main_v28 (broadcastInDim S512x256x1 ![0, 1] bcast_S512x256_S512x256x1_0_1 : (⟨S512x256, .i1⟩ : BufTy).Contents (Elt F) → (⟨S512x256x1, .i1⟩ : BufTy).Contents (Elt F)),
    unary main_v27 main_v29 (broadcastInDim S512x256x1 ![0, 1] bcast_S512x256_S512x256x1_0_1 : (⟨S512x256, .i1⟩ : BufTy).Contents (Elt F) → (⟨S512x256x1, .i1⟩ : BufTy).Contents (Elt F)),
    binary main_v28 main_v29 main_v30 stackS,
    unary main_v30 main_v31 (uitofp .f32 : (⟨S512x256x2, .i1⟩ : BufTy).Contents (Elt F) → (⟨S512x256x2, .f32⟩ : BufTy).Contents (Elt F)),
    reshape main_v31 main_v32 (rfl : (.f32 : EltTy) = .f32) shapeCasts_S512x256x2_S512x512,
    nullary main_cst_4 (constant S_ .f32 0x00000000#32),
    binary main_v9 main_cst_4 main_v33 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    unary main_v33 main_v34 (broadcastInDim S8192x1 ![0] bcast_S8192_S8192x1_0 : (⟨S8192, .f32⟩ : BufTy).Contents (Elt F) → (⟨S8192x1, .f32⟩ : BufTy).Contents (Elt F)),
    nullary main_cst_5 (constant S_ .f32 0x00000000#32),
    binary main_v32 main_cst_5 main_v35 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    unary main_v35 main_v36 (broadcastInDim S1x512 ![1] bcast_S512_S1x512_1 : (⟨S512, .f32⟩ : BufTy).Contents (Elt F) → (⟨S1x512, .f32⟩ : BufTy).Contents (Elt F)),
    unary main_v34 main_v37 (broadcastInDim S8192x512 ![0, 1] bcast_S8192x1_S8192x512_0_1 : (⟨S8192x1, .f32⟩ : BufTy).Contents (Elt F) → (⟨S8192x512, .f32⟩ : BufTy).Contents (Elt F)),
    unary main_v36 main_v38 (broadcastInDim S8192x512 ![0, 1] bcast_S1x512_S8192x512_0_1 : (⟨S1x512, .f32⟩ : BufTy).Contents (Elt F) → (⟨S8192x512, .f32⟩ : BufTy).Contents (Elt F)),
    binary main_v37 main_v38 main_v39 (addf : (⟨S8192x512, .f32⟩ : BufTy).Contents (Elt F) → (⟨S8192x512, .f32⟩ : BufTy).Contents (Elt F) → (⟨S8192x512, .f32⟩ : BufTy).Contents (Elt F)),
    unary main_v32 main_v40 ((transpose S512x512 [1, 0] · transposes_S512x512_S512x512_1_0) : (⟨S512x512, .f32⟩ : BufTy).Contents (Elt F) → (⟨S512x512, .f32⟩ : BufTy).Contents (Elt F)),
    binary main_v9 main_v40 main_v41 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    nullary main_cst_6 (constant S_ .f32 0x40000000#32),
    unary main_cst_6 main_v42 (broadcastInDim S8192x512 ![] bcast_S_S8192x512 : (⟨S_, .f32⟩ : BufTy).Contents (Elt F) → (⟨S8192x512, .f32⟩ : BufTy).Contents (Elt F)),
    binary main_v42 main_v41 main_v43 (mulf : (⟨S8192x512, .f32⟩ : BufTy).Contents (Elt F) → (⟨S8192x512, .f32⟩ : BufTy).Contents (Elt F) → (⟨S8192x512, .f32⟩ : BufTy).Contents (Elt F)),
    binary main_v39 main_v43 main_v44 (subf : (⟨S8192x512, .f32⟩ : BufTy).Contents (Elt F) → (⟨S8192x512, .f32⟩ : BufTy).Contents (Elt F) → (⟨S8192x512, .f32⟩ : BufTy).Contents (Elt F)),
    reshape main_v44 main_v45 (rfl : (.f32 : EltTy) = .f32) shapeCasts_S8192x512_S32x256x512,
    unary main_v45 main_v46 (fptosi 32 : (⟨S32x256x512, .f32⟩ : BufTy).Contents (Elt F) → (⟨S32x256x512, .i32⟩ : BufTy).Contents (Elt F)),
    TRef.nullary main_call0.v0 (iotaInDim S32x256x512 32 2),
    TRef.nullary main_call0.c (constantI S_ 32 2147483647#32),
    TRef.nullary main_call0.c_0 (constantI S_ 32 0#32),
    TRef.quaternary (.of main_v46) main_call0.v0 main_call0.c main_call0.c_0 main_call0.v1_0 (fun x y u v j => (Host.reduce2 reducer_argmin_i32_i32 x y u v reducesTo_S32x256x512_S32x256_d2 h_S_ j).1),
    TRef.quaternary (.of main_v46) main_call0.v0 main_call0.c main_call0.c_0 main_call0.v1_1 (fun x y u v j => (Host.reduce2 reducer_argmin_i32_i32 x y u v reducesTo_S32x256x512_S32x256_d2 h_S_ j).2) ]

set_option maxRecDepth 65536 in
/-- The reference program is its list of operations, run in order. -/
theorem main_eq (c : Dev nD) : main (F := F) c = seq ops := rfl

/-- No buffer of the reference is scoped. -/
theorem scopedRefs_eq : (Finset.univ.filter fun b : Ref sig .tc => b.isScoped) = ∅ := by decide

/-- No semaphore of the reference is scoped. -/
theorem scopedSems_eq : (Finset.univ.filter fun sm : SemLoc sig => sm.isScoped .tc) = ∅ := by decide

set_option maxRecDepth 65536 in
/-- Every operation touches buffers of the device only. -/
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., unary_bufs_sub .., unary_bufs_sub .., binary_bufs_sub .., unary_bufs_sub .., reshape_bufs_sub .., unary_bufs_sub .., unary_bufs_sub .., unary_bufs_sub .., unary_bufs_sub .., nullary_bufs_sub .., unary_bufs_sub .., binary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., unary_bufs_sub .., reshape_bufs_sub .., nullary_bufs_sub .., binary_bufs_sub .., unary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., reshape_bufs_sub .., unary_bufs_sub .., nullary_bufs_sub .., nullary_bufs_sub .., nullary_bufs_sub .., quaternary_bufs_sub .., quaternary_bufs_sub ..⟩

set_option maxRecDepth 65536 in
set_option maxHeartbeats 2000000 in
/-- Every run of the reference ends with the two result buffers at `argMin` of `dist` and at `dist` of the arguments'
    contents, and with the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = argMin (dist (m ((c.tc : Thread nD τ).loc main_arg0)) (m ((c.tc : Thread nD τ).loc main_arg1)) (m ((c.tc : Thread nD τ).loc main_arg2)))
      ∧ r.2.mem ((c.tc : Thread nD τ).loc main_v46) = dist (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v47).trans (by after_results_simp <;> rfl),
      (h c main_v46).trans (by after_results_simp <;> rfl),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

/-- Every run of the reference leaves the arguments unchanged and every semaphore counter at zero (it has none). -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2.2, sem_eq_zero_of_no_sems (by decide) r.2⟩) (run m ρ)

end Cert.RefRun

end
-- ==== Proof.KernelBlock.lean ====
module

public import proofs.«01_k».proof.Proof.Gen.KernelIdeal.Frame
public import Idealize.ShloMosaic.Lib.Pipeline.Value
public import Idealize.ShloMosaic.Lib.Pipeline.ValueKit
public import Idealize.ShloMosaic.Lib.Pipeline.ReadBack

/-! What one grid point of the kernel leaves in its two output blocks and in the two tables it carries from point to
point: closed terms of the point's block of samples and of the tables. -/

@[expose] public section

noncomputable section

namespace Cert.Block

open Cert.KernelIdeal Cert.KernelIdeal.Gen Idealize.ShloMosaic Idealize.ShloMosaic.TcCoe Idealize.SL.Sem

variable {F : FTy → Type} [FloatOps F]

/-- The table of products: one row for each signature, the first 256 columns for positive entries and the last 256 for
    negative entries. -/
def tabP (x1 : Vec F S1x256 .f32) (x2 : Vec F S511x256 .f32) : Vec F S512x512 .bf16 := k0_pay4 (k0_pay3 x1 x2)

/-- The table of offsets: for each signature the number of its nonzero entries plus a 512th of its number. -/
def tabC (x1 : Vec F S1x256 .f32) (x2 : Vec F S511x256 .f32) : Vec F S1x512 .f32 := k0_pay5 (k0_pay2 x1 x2)

/-- The rows of the table of products that belong to the first 256 signatures. -/
def loP (P : Vec F S512x512 .bf16) : Vec F S256x512 .bf16 := View.ld P (Rect.unit ![0, 0] ![256, 512] inb_S512x512_S256x512_0_0)
/-- The rows that belong to the last 256 signatures. -/
def hiP (P : Vec F S512x512 .bf16) : Vec F S256x512 .bf16 := View.ld P (Rect.unit ![256, 0] ![256, 512] inb_S512x512_S256x512_256_0)
/-- The offsets of the first 256 signatures. -/
def loC (C : Vec F S1x512 .f32) : Vec F S1x256 .f32 := View.ld C (Rect.unit ![0, 0] ![1, 256] inb_S1x512_S1x256_0_0)
/-- The offsets of the last 256 signatures. -/
def hiC (C : Vec F S1x512 .f32) : Vec F S1x256 .f32 := View.ld C (Rect.unit ![0, 256] ![1, 256] inb_S1x512_S1x256_0_256)

/-- The block of distances of a block of samples: two stores, one for each half of the signatures. -/
def outD (x0 : Vec F S2048x256 .f32) (P : Vec F S512x512 .bf16) (C : Vec F S1x512 .f32) : Vec F S2048x512 .i32 :=
  View.canon
    [⟨Rect.unit ![0, 256] ![2048, 256] inb_S2048x512_S2048x256_0_256, k0_pay11 x0 (hiP P) (hiC C)⟩,
      ⟨Rect.unit ![0, 0] ![2048, 256] inb_S2048x512_S2048x256_0_0, k0_pay8 x0 (loP P) (loC C)⟩]

/-- The block of nearest signatures of a block of samples. -/
def outI (x0 : Vec F S2048x256 .f32) (P : Vec F S512x512 .bf16) (C : Vec F S1x512 .f32) : Vec F S8x256 .i32 :=
  k0_pay1 (k0_pay9 x0 (loP P) (loC C)) (k0_pay12 x0 (hiP P) (hiC C))

/-- The first point builds the table of products. -/
theorem tabP_A (c : Dev nD) (i : grid0.Coords) (arg1 : Memref sig .tc .vmem S2048x256 .f32) (harg1 : arg1.IsWhole) (arg2 : Memref sig .tc .vmem S1x256 .f32) (harg2 : arg2.IsWhole) (arg3 : Memref sig .tc .vmem S511x256 .f32) (harg3 : arg3.IsWhole) (arg4 : Memref sig .tc .vmem S2048x512 .i32) (harg4 : arg4.IsWhole) (arg5 : Memref sig .tc .vmem S8x256 .i32) (harg5 : arg5.IsWhole) (arg6 : Memref sig .tc .vmem S512x512 .bf16) (harg6 : arg6.IsWhole) (arg7 : Memref sig .tc .vmem S1x512 .f32) (harg7 : arg7.IsWhole) (hc0 : cond0_0 i) (x0 : Vec F S2048x256 .f32) (x1 : Vec F S1x256 .f32) (x2 : Vec F S511x256 .f32) :
    sout0_A_0 c i arg1 harg1 arg2 harg2 arg3 harg3 arg4 harg4 arg5 harg5 arg6 harg6 arg7 harg7 hc0 x0 x1 x2 = tabP x1 x2 := by
  frame_out
  rfl

/-- The first point builds the table of offsets. -/
theorem tabC_A (c : Dev nD) (i : grid0.Coords) (arg1 : Memref sig .tc .vmem S2048x256 .f32) (harg1 : arg1.IsWhole) (arg2 : Memref sig .tc .vmem S1x256 .f32) (harg2 : arg2.IsWhole) (arg3 : Memref sig .tc .vmem S511x256 .f32) (harg3 : arg3.IsWhole) (arg4 : Memref sig .tc .vmem S2048x512 .i32) (harg4 : arg4.IsWhole) (arg5 : Memref sig .tc .vmem S8x256 .i32) (harg5 : arg5.IsWhole) (arg6 : Memref sig .tc .vmem S512x512 .bf16) (harg6 : arg6.IsWhole) (arg7 : Memref sig .tc .vmem S1x512 .f32) (harg7 : arg7.IsWhole) (hc0 : cond0_0 i) (x0 : Vec F S2048x256 .f32) (x1 : Vec F S1x256 .f32) (x2 : Vec F S511x256 .f32) :
    sout0_A_1 c i arg1 harg1 arg2 harg2 arg3 harg3 arg4 harg4 arg5 harg5 arg6 harg6 arg7 harg7 hc0 x0 x1 x2 = tabC x1 x2 := by
  frame_out
  rfl

/-- The distances the first point leaves. -/
theorem outD_A (c : Dev nD) (i : grid0.Coords) (arg1 : Memref sig .tc .vmem S2048x256 .f32) (harg1 : arg1.IsWhole) (arg2 : Memref sig .tc .vmem S1x256 .f32) (harg2 : arg2.IsWhole) (arg3 : Memref sig .tc .vmem S511x256 .f32) (harg3 : arg3.IsWhole) (arg4 : Memref sig .tc .vmem S2048x512 .i32) (harg4 : arg4.IsWhole) (arg5 : Memref sig .tc .vmem S8x256 .i32) (harg5 : arg5.IsWhole) (arg6 : Memref sig .tc .vmem S512x512 .bf16) (harg6 : arg6.IsWhole) (arg7 : Memref sig .tc .vmem S1x512 .f32) (harg7 : arg7.IsWhole) (hc0 : cond0_0 i) (x0 : Vec F S2048x256 .f32) (x1 : Vec F S1x256 .f32) (x2 : Vec F S511x256 .f32) :
    out0_A_3 c i arg1 harg1 arg2 harg2 arg3 harg3 arg4 harg4 arg5 harg5 arg6 harg6 arg7 harg7 hc0 x0 x1 x2 = outD x0 (tabP x1 x2) (tabC x1 x2) := by
  frame_out
  simp (disch := decide) only [↓ View.readCov_fill]
  rfl

/-- The nearest signatures the first point leaves. -/
theorem outI_A (c : Dev nD) (i : grid0.Coords) (arg1 : Memref sig .tc .vmem S2048x256 .f32) (harg1 : arg1.IsWhole) (arg2 : Memref sig .tc .vmem S1x256 .f32) (harg2 : arg2.IsWhole) (arg3 : Memref sig .tc .vmem S511x256 .f32) (harg3 : arg3.IsWhole) (arg4 : Memref sig .tc .vmem S2048x512 .i32) (harg4 : arg4.IsWhole) (arg5 : Memref sig .tc .vmem S8x256 .i32) (harg5 : arg5.IsWhole) (arg6 : Memref sig .tc .vmem S512x512 .bf16) (harg6 : arg6.IsWhole) (arg7 : Memref sig .tc .vmem S1x512 .f32) (harg7 : arg7.IsWhole) (hc0 : cond0_0 i) (x0 : Vec F S2048x256 .f32) (x1 : Vec F S1x256 .f32) (x2 : Vec F S511x256 .f32) :
    out0_A_4 c i arg1 harg1 arg2 harg2 arg3 harg3 arg4 harg4 arg5 harg5 arg6 harg6 arg7 harg7 hc0 x0 x1 x2 = outI x0 (tabP x1 x2) (tabC x1 x2) := by
  frame_out
  simp (disch := decide) only [↓ View.readCov_fill]
  rfl

/-- The distances a later point leaves. -/
theorem outD_B (c : Dev nD) (i : grid0.Coords) (arg1 : Memref sig .tc .vmem S2048x256 .f32) (harg1 : arg1.IsWhole) (arg2 : Memref sig .tc .vmem S1x256 .f32) (harg2 : arg2.IsWhole) (arg3 : Memref sig .tc .vmem S511x256 .f32) (harg3 : arg3.IsWhole) (arg4 : Memref sig .tc .vmem S2048x512 .i32) (harg4 : arg4.IsWhole) (arg5 : Memref sig .tc .vmem S8x256 .i32) (harg5 : arg5.IsWhole) (arg6 : Memref sig .tc .vmem S512x512 .bf16) (harg6 : arg6.IsWhole) (arg7 : Memref sig .tc .vmem S1x512 .f32) (harg7 : arg7.IsWhole) (hc0 : ¬cond0_0 i) (x0 : Vec F S2048x256 .f32) (x1 : Vec F S1x256 .f32) (x2 : Vec F S511x256 .f32) (xs0 : Vec F S512x512 .bf16) (xs1 : Vec F S1x512 .f32) :
    out0_B_3 c i arg1 harg1 arg2 harg2 arg3 harg3 arg4 harg4 arg5 harg5 arg6 harg6 arg7 harg7 hc0 x0 x1 x2 xs0 xs1 = outD x0 xs0 xs1 := by
  frame_out
  rfl

/-- The nearest signatures a later point leaves. -/
theorem outI_B (c : Dev nD) (i : grid0.Coords) (arg1 : Memref sig .tc .vmem S2048x256 .f32) (harg1 : arg1.IsWhole) (arg2 : Memref sig .tc .vmem S1x256 .f32) (harg2 : arg2.IsWhole) (arg3 : Memref sig .tc .vmem S511x256 .f32) (harg3 : arg3.IsWhole) (arg4 : Memref sig .tc .vmem S2048x512 .i32) (harg4 : arg4.IsWhole) (arg5 : Memref sig .tc .vmem S8x256 .i32) (harg5 : arg5.IsWhole) (arg6 : Memref sig .tc .vmem S512x512 .bf16) (harg6 : arg6.IsWhole) (arg7 : Memref sig .tc .vmem S1x512 .f32) (harg7 : arg7.IsWhole) (hc0 : ¬cond0_0 i) (x0 : Vec F S2048x256 .f32) (x1 : Vec F S1x256 .f32) (x2 : Vec F S511x256 .f32) (xs0 : Vec F S512x512 .bf16) (xs1 : Vec F S1x512 .f32) :
    out0_B_4 c i arg1 harg1 arg2 harg2 arg3 harg3 arg4 harg4 arg5 harg5 arg6 harg6 arg7 harg7 hc0 x0 x1 x2 xs0 xs1 = outI x0 xs0 xs1 := by
  frame_out
  rfl

end Cert.Block
end
-- ==== Proof.KernelRun.lean ====
module

public import proofs.«01_k».proof.Proof.KernelBlock
public import Idealize.ShloMosaic.Lib.Pointwise
public import Idealize.ShloMosaic.Lib.Claim

/-! The kernel's run: the two result arrays hold, block by block, what the grid points leave, every point computing from
the two tables that the first point builds. -/

@[expose] public section

set_option maxRecDepth 16384

noncomputable section

namespace Cert.KernelRun

open Cert.KernelIdeal Cert.KernelIdeal.Gen Cert.Block Idealize.ShloMosaic Idealize.ShloMosaic.TcCoe Idealize.SL.Sem
open Idealize.ShloMosaic.Pipeline (Dat)

variable {F : FTy → Type} [FloatOps F]

/-- Rows `2048 t` to `2048 t + 2047` of the samples. -/
def rowsAt (x : Vec F S8192x256 .f32) (t : ℕ) : Vec F S2048x256 .f32 :=
  fun y => x (ix2 ⟨(2048 * t + (y 0).val) % 8192, Nat.mod_lt _ (by decide)⟩ ⟨(y 1).val, (y 1).isLt⟩)

/-- The array of distances: row `r` is row `r mod 2048` of the block of grid point `r / 2048`. -/
def arrD (x : Vec F S8192x256 .f32) (P : Vec F S512x512 .bf16) (C : Vec F S1x512 .f32) : Vec F S8192x512 .i32 :=
  fun i => outD (rowsAt x ((i 0).val / 2048)) P C (ix2 ⟨(i 0).val % 2048, Nat.mod_lt _ (by decide)⟩ ⟨(i 1).val, (i 1).isLt⟩)

/-- The array of nearest signatures: row `r` is row `r mod 8` of the block of grid point `r / 8`. -/
def arrI (x : Vec F S8192x256 .f32) (P : Vec F S512x512 .bf16) (C : Vec F S1x512 .f32) : Vec F S32x256 .i32 :=
  fun i => outI (rowsAt x ((i 0).val / 8)) P C (ix2 ⟨(i 0).val % 8, Nat.mod_lt _ (by decide)⟩ ⟨(i 1).val, (i 1).isLt⟩)

/-- The array of distances at a place of block `t`. -/
theorem arrD_at (x : Vec F S8192x256 .f32) (P : Vec F S512x512 .bf16) (C : Vec F S1x512 .f32) (i : S8192x512.Idx) (t : ℕ)
    (y : S2048x512.Idx) (hy : (y 0).val < 2048) (h0 : (i 0).val = 2048 * t + (y 0).val) (h1 : (i 1).val = (y 1).val) :
    arrD x P C i = outD (rowsAt x t) P C y := by
  unfold arrD
  rw [show (i 0).val / 2048 = t by omega]
  refine congrArg _ (funext fun a => Fin.ext ?_)
  match a with
  | ⟨0, _⟩ => show (i 0).val % 2048 = (y 0).val; omega
  | ⟨1, _⟩ => exact h1

/-- The array of nearest signatures at a place of block `t`. -/
theorem arrI_at (x : Vec F S8192x256 .f32) (P : Vec F S512x512 .bf16) (C : Vec F S1x512 .f32) (i : S32x256.Idx) (t : ℕ)
    (y : S8x256.Idx) (hy : (y 0).val < 8) (h0 : (i 0).val = 8 * t + (y 0).val) (h1 : (i 1).val = (y 1).val) :
    arrI x P C i = outI (rowsAt x t) P C y := by
  unfold arrI
  rw [show (i 0).val / 8 = t by omega]
  refine congrArg _ (funext fun a => Fin.ext ?_)
  match a with
  | ⟨0, _⟩ => show (i 0).val % 8 = (y 0).val; omega
  | ⟨1, _⟩ => exact h1

variable (m : (ℓ : Loc nD τ sig) → Buf (Elt F) ℓ) (ρ : Dev nD → PrngReg)

/-- The samples as 8192 rows. -/
abbrev argX (c : Dev nD) : Vec F S8192x256 .f32 := shapeCast S8192x256 (m ((c.tc : Thread nD τ).loc main_arg0)) shapeCasts_S32x256x256_S8192x256
/-- The base signature as one row. -/
abbrev argB (c : Dev nD) : Vec F S1x256 .f32 := shapeCast S1x256 (m ((c.tc : Thread nD τ).loc main_arg1)) shapeCasts_S256_S1x256
/-- The differences of the other signatures from the base. -/
abbrev argD (c : Dev nD) : Vec F S511x256 .f32 := m ((c.tc : Thread nD τ).loc main_arg2)

/-- The windows' block indices at each grid point. -/
theorem idxs : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The block of samples point `t` works on. -/
theorem blk0 (c : Dev nD) (t : Fin cfg0.N) : iblk m c 0 t = rowsAt (argX m c) t.val := by
  obtain ⟨e0, e1, e2, e3, e4⟩ := idxs t
  have hN : t.val < 4 := lt_of_lt_of_eq t.isLt N_0
  funext y
  blk_simp [iblk, e0]
  entry_read
  unfold rowsAt
  refine congrArg _ ?_
  blk_ext [e0]

/-- Every point is given the whole base signature. -/
theorem blk1 (c : Dev nD) (t : Fin cfg0.N) : iblk m c 1 t = argB m c := by
  obtain ⟨e0, e1, e2, e3, e4⟩ := idxs t
  funext y
  blk_simp [iblk, e1]
  entry_read
  refine congrArg _ ?_
  blk_ext [e1]

/-- Every point is given all the differences. -/
theorem blk2 (c : Dev nD) (t : Fin cfg0.N) : iblk m c 2 t = argD m c := by
  obtain ⟨e0, e1, e2, e3, e4⟩ := idxs t
  funext y
  blk_simp [iblk, e2]
  rw [V_main_arg2]
  refine congrArg _ ?_
  blk_ext [e2]

/-- What each grid point leaves: its two output blocks, and the two tables unchanged since the first point. -/
theorem outs (c : Dev nD) : ∀ (n : ℕ) (hn : n < cfg0.N), outsAt0 m c n hn
    = (outD (rowsAt (argX m c) n) (tabP (argB m c) (argD m c)) (tabC (argB m c) (argD m c)),
       outI (rowsAt (argX m c) n) (tabP (argB m c) (argD m c)) (tabC (argB m c) (argD m c)),
       tabP (argB m c) (argD m c), tabC (argB m c) (argD m c))
  | 0, hn => by
    rw [outsAt0_A m c ⟨0, hn⟩ rfl, outD_A, outI_A, tabP_A, tabC_A, blk0, blk1, blk2]
  | n + 1, hn => by
    have hN : n + 1 < 4 := lt_of_lt_of_eq hn N_0
    have h0 : ¬ (n + 1) % 4 = 0 := by omega
    have e := outsAt0_B m c ⟨n + 1, hn⟩ h0
    have ih := outs c n (Nat.lt_of_succ_lt hn)
    rw [outD_B, outI_B] at e
    refine e.trans ?_
    unfold sout0_B_0 sout0_B_1
    have ih' : outsAt0 m c (n + 1 - 1) (Nat.lt_of_succ_lt hn) = _ := ih
    rw [ih', blk0]

/-- Where block `t` of the distances lies in the array. -/
theorem emb3 (t : Fin cfg0.N) (y : S2048x512.Idx) :
    (((cfg0.win 3).blk t).view.emb y 0).val = 2048 * t.val + (y 0).val ∧ (((cfg0.win 3).blk t).view.emb y 1).val = (y 1).val := by
  obtain ⟨e0, e1, e2, e3, e4⟩ := idxs t
  constructor
  · blk_simp [e3] <;> (try simp) <;> (try omega)
  · blk_simp [e3] <;> (try simp)

/-- Block `t` of the array of distances. -/
theorem blk3 (x : Vec F S8192x256 .f32) (P : Vec F S512x512 .bf16) (C : Vec F S1x512 .f32) (t : Fin cfg0.N) (y : S2048x512.Idx) :
    outD (rowsAt x t.val) P C y = arrD x P C (((cfg0.win 3).blk t).view.emb y) :=
  (arrD_at x P C _ t.val y (y 0).isLt (emb3 t y).1 (emb3 t y).2).symm

/-- The array of distances after the run. -/
theorem final3 (c : Dev nD) : (dats m 0 c).arrAt 3 cfg0.N
    = arrD (argX m c) (tabP (argB m c) (argD m c)) (tabC (argB m c) (argD m c)) := by
  refine (dats m 0 c).arrAt_eq_of_covers 3 _ (by decide +kernel) fun t hf y => ?_
  blk_simp
  rw [after0_3, outs]
  revert y
  generalize tabP (argB m c) (argD m c) = P
  generalize tabC (argB m c) (argD m c) = C
  generalize argX m c = x
  intro y
  dsimp only
  exact blk3 x P C t y

/-- The array of nearest signatures after the run. -/
theorem final4 (c : Dev nD) : (dats m 0 c).arrAt 4 cfg0.N
    = arrI (argX m c) (tabP (argB m c) (argD m c)) (tabC (argB m c) (argD m c)) := by
  refine (dats m 0 c).arrAt_eq_of_covers 4 _ (by decide +kernel) fun t hf y => ?_
  obtain ⟨e0, e1, e2, e3, e4⟩ := idxs t
  blk_simp
  rw [after0_4, outs]
  have hy0 : (y 0).val < 8 := (y 0).isLt
  have hb0 : (((cfg0.win 4).blk t).view.emb y 0).val = 8 * t.val + (y 0).val := by
    blk_simp [e4] <;> (try simp) <;> (try omega)
  have hb1 : (((cfg0.win 4).blk t).view.emb y 1).val = (y 1).val := by
    blk_simp [e4] <;> (try simp)
  exact (arrI_at _ _ _ _ t.val y hy0 hb0 hb1).symm

/-- Every run of the kernel ends with the result buffers at the two arrays, the distances recast to three axes, and with
    the arguments unchanged. -/
theorem run : θ_run defs (onTc (τ := τ) (main (F := F))) ⟨m, fun _ => 0, ρ⟩ fun r => ∀ c : Dev nD,
      r.2.mem ((c.tc : Thread nD τ).loc main_v2_1) = arrI (argX m c) (tabP (argB m c) (argD m c)) (tabC (argB m c) (argD m c))
      ∧ r.2.mem ((c.tc : Thread nD τ).loc main_v3)
        = shapeCast S32x256x512 (arrD (argX m c) (tabP (argB m c) (argD m c)) (tabC (argB m c) (argD m c))) shapeCasts_S8192x512_S32x256x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨
      ((h.1 c).1 4).trans (final4 m c),
      ((h.1 c).2 main_v3 (Pipeline.mem_restRefs_of main_v3 (by decide) (by decide))).trans (by
        unfold Pipeline.afterTail₀
        generalize hW : Pipeline.withArrays (cfgs 0).spec c (V0 m c) (fun w => (dats m 0 c).arrAt w (cfgs 0).N) = W
        refine (show _ = shapeCast S32x256x512 (W (Proc.devRef .tc main_v2_0)) shapeCasts_S8192x512_S32x256x512 from rfl).trans ?_
        rw [← final3 m c, ← hW]
        exact congrArg (fun z => shapeCast S32x256x512 z shapeCasts_S8192x512_S32x256x512)
          (Pipeline.withArrays_arr spec0 (by decide) c (V0 m c) _ 3)),
      h.2 c⟩)
    (θ_run_and (run_main m ρ) (unchanged m ρ))

end Cert.KernelRun

end
-- ==== Proof.Tern.lean ====
module

public import Idealize.ShloMosaic.PureOps.Ideal
public import Idealize.ShloMosaic.PureOps.Ideal.Laws

/-! The mathematics both programs compute: the signs of numbers as two flags, the Hamming distance of two rows of signs,
the signatures derived from a base and its differences, and the first position of a least distance. -/

@[expose] public section

noncomputable section

namespace Cert.Tern

open Idealize.ShloMosaic

/-- One for a positive number, else zero. -/
def pos (v : EReal) : ℤ := if 0 < v then 1 else 0

/-- One for a negative number, else zero. -/
def neg (v : EReal) : ℤ := if v < 0 then 1 else 0

/-- How many of the two flags of `u` and `v` differ. -/
def diff (u v : EReal) : ℤ := pos u + neg u + (pos v + neg v) - 2 * (pos u * pos v + neg u * neg v)

/-- The Hamming distance of two rows of signs, two flags for each sign. -/
def hamm (u v : Fin 256 → EReal) : ℤ := ∑ d, diff (u d) (v d)

/-- The sign a signature takes from the base's entry `b` and its difference's entry `e`: that of `e` unless `e` is zero. -/
def mix (b e : EReal) : EReal := if Ideal.sign e = 0 then Ideal.sign b else Ideal.sign e

/-- Signature number `k`: the base's signs for `k = 0`, else the base changed by difference `k - 1`. -/
def sig (b : Fin 256 → EReal) (e : Fin 511 → Fin 256 → EReal) (k : Fin 512) (d : Fin 256) : EReal :=
  if h : k.val < 1 then Ideal.sign (b d) else mix (b d) (e ⟨k.val - 1, by omega⟩ d)

/-- A flag is zero or one. -/
theorem pos_or (v : EReal) : pos v = 0 ∨ pos v = 1 := by unfold pos; split <;> simp
/-- A flag is zero or one. -/
theorem neg_or (v : EReal) : neg v = 0 ∨ neg v = 1 := by unfold neg; split <;> simp

/-- A number is not both positive and negative. -/
theorem pos_add_neg_le (v : EReal) : pos v + neg v ≤ 1 := by
  unfold pos neg
  by_cases h : 0 < v
  · rw [if_pos h, if_neg (not_lt.mpr h.le)]; omega
  · rw [if_neg h]; split <;> omega

/-- Two signs differ in at most two flags. -/
theorem diff_bounds (u v : EReal) : 0 ≤ diff u v ∧ diff u v ≤ 2 := by
  have h1 := pos_add_neg_le u
  have h2 := pos_add_neg_le v
  unfold diff
  rcases pos_or u with a | a <;> rcases neg_or u with b | b <;> rcases pos_or v with c | c <;> rcases neg_or v with d | d <;>
    rw [a, b] at h1 <;> rw [c, d] at h2 <;> rw [a, b, c, d] <;> omega

/-- The distance of two rows is between 0 and 512. -/
theorem hamm_bounds (u v : Fin 256 → EReal) : 0 ≤ hamm u v ∧ hamm u v ≤ 512 := by
  constructor
  · exact Finset.sum_nonneg fun d _ => (diff_bounds _ _).1
  · refine (Finset.sum_le_card_nsmul Finset.univ _ 2 fun d _ => (diff_bounds _ _).2).trans ?_
    simp

/-- The distance splits into the number of nonzero entries of the second row and a sum over the first's flags. -/
theorem hamm_split (u v : Fin 256 → EReal) :
    hamm u v = (∑ d, (pos (v d) + neg (v d)))
      + ((∑ d, pos (u d) * (1 - 2 * pos (v d))) + ∑ d, neg (u d) * (1 - 2 * neg (v d))) := by
  unfold hamm diff
  rw [← Finset.sum_add_distrib, ← Finset.sum_add_distrib]
  exact Finset.sum_congr rfl fun d _ => by ring

/-- A sign is positive just when its number is. -/
theorem pos_sign (v : EReal) : pos (Ideal.sign v) = pos v := by
  unfold pos
  rcases lt_trichotomy v 0 with h | h | h
  · rw [Ideal.sign_of_neg h, if_neg (not_lt.mpr h.le), if_neg]
    norm_num
  · subst h; rw [Ideal.sign_zero]
  · rw [Ideal.sign_of_pos h, if_pos h, if_pos]
    norm_num

/-- A sign is negative just when its number is. -/
theorem neg_sign (v : EReal) : neg (Ideal.sign v) = neg v := by
  unfold neg
  rcases lt_trichotomy v 0 with h | h | h
  · rw [Ideal.sign_of_neg h, if_pos h, if_pos]
    norm_num
  · subst h; rw [Ideal.sign_zero]
  · rw [Ideal.sign_of_pos h, if_neg (not_lt.mpr h.le), if_neg]
    norm_num

/-- A sign is minus one, zero or one. -/
theorem sign_cases (v : EReal) : Ideal.sign v = -1 ∨ Ideal.sign v = 0 ∨ Ideal.sign v = 1 := by
  rcases lt_trichotomy v 0 with h | h | h
  · exact .inl (Ideal.sign_of_neg h)
  · subst h; exact .inr (.inl Ideal.sign_zero)
  · exact .inr (.inr (Ideal.sign_of_pos h))

/-- Minus one is at most one. -/
theorem neg_one_le : (-1 : EReal) ≤ 1 := le_trans (by norm_num : (-1 : EReal) ≤ 0) zero_le_one

/-- The size of a sign is one of a nonzero number, else zero: the two flags' sum. -/
theorem abs_sign (v : EReal) : max (Ideal.sign v) (-Ideal.sign v) = (((pos v + neg v : ℤ) : ℝ) : EReal) := by
  unfold pos neg
  rcases lt_trichotomy v 0 with h | h | h
  · rw [Ideal.sign_of_neg h, if_pos h, if_neg (not_lt.mpr h.le), neg_neg, max_eq_right neg_one_le]
    simp
  · subst h; rw [Ideal.sign_zero]; simp
  · rw [Ideal.sign_of_pos h, if_pos h, if_neg (not_lt.mpr h.le), max_eq_left neg_one_le]
    simp

/-- The sign of `b (1 - |e|) + e |e|`, for signs `b` and `e`, is the mixed sign. -/
theorem mix_eq (b e : EReal) :
    Ideal.sign (Ideal.sign b * (1 - max (Ideal.sign e) (-Ideal.sign e)) + Ideal.sign e * max (Ideal.sign e) (-Ideal.sign e))
      = mix b e := by
  have hn : Ideal.sign (-1 : EReal) = -1 := Ideal.sign_of_neg (by norm_num)
  have hp : Ideal.sign (1 : EReal) = 1 := Ideal.sign_of_pos (by norm_num)
  have hs : (1 : EReal) - 1 = 0 := EReal.sub_self (by decide) (by decide)
  unfold mix
  rcases sign_cases e with h | h | h <;> rw [h]
  · rw [neg_neg, max_eq_right neg_one_le, hs, mul_zero, zero_add, mul_one, hn, if_neg (by norm_num)]
  · rw [if_pos rfl, neg_zero, max_self, mul_zero, add_zero, sub_zero, mul_one]
    rcases sign_cases b with h | h | h <;> rw [h]
    · exact hn
    · exact Ideal.sign_zero
    · exact hp
  · rw [max_eq_left neg_one_le, hs, mul_zero, zero_add, mul_one, hp, if_neg (by norm_num)]

/-- A sum of real numbers is the same sum among the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- `k` is the first position of a least value of `D`. -/
def IsFirst (D : Fin 512 → ℤ) (k : Fin 512) : Prop := ∀ j, D k < D j ∨ D k = D j ∧ k ≤ j

/-- There is such a position. -/
theorem exists_first (D : Fin 512 → ℤ) : ∃ k, IsFirst D k := by
  obtain ⟨k, -, hk⟩ := Finset.exists_min_image Finset.univ (fun k : Fin 512 => 512 * D k + (k.val : ℤ)) ⟨0, Finset.mem_univ _⟩
  refine ⟨k, fun j => ?_⟩
  have h := hk j (Finset.mem_univ _)
  have hj := j.isLt
  have hk' := k.isLt
  rw [Fin.le_def]
  omega

/-- Truncating a number between `n` and `n + 1` to an integer word gives `n`. -/
theorem fptosi_of (n : ℤ) (x : ℝ) (h0 : 0 ≤ n) (h1 : n ≤ 512) (hx : (n : ℝ) ≤ x) (hx' : x < n + 1) :
    Ideal.fptosi 32 (x : EReal) = BitVec.ofInt 32 n := by
  have hn : (0 : ℝ) ≤ n := by exact_mod_cast h0
  have hf : ⌊x⌋ = n := Int.floor_eq_iff.mpr ⟨hx, hx'⟩
  unfold Ideal.fptosi
  rw [Ideal.toIntClamped_coe]
  rw [if_pos (hn.trans hx), hf]
  congr 1
  norm_num
  omega

/-- The word of a small number, read as a signed integer, is that number. -/
theorem toInt_of (n : ℤ) (h0 : 0 ≤ n) (h1 : n ≤ 512) : (BitVec.ofInt 32 n).toInt = n := by
  rw [BitVec.toInt_ofInt, Int.bmod_eq_of_le (by norm_num; omega) (by norm_num; omega)]

end Cert.Tern

end
-- ==== Proof.KernelTables.lean ====
module

public import proofs.«01_k».proof.Proof.Tern
public import proofs.«01_k».proof.Proof.KernelBlock
public import Idealize.ShloMosaic.Lib.Pointwise
public import Idealize.ShloMosaic.Lib.ValueIdx

/-! The kernel's tables over the extended reals: its signatures are the mixed signs, the table of products holds one minus
twice their flags, the table of offsets the number of nonzero entries plus a 512th of the signature's number, and the flags
of a block of samples are the samples' flags. -/

@[expose] public section

set_option maxRecDepth 16384

noncomputable section

namespace Cert.KernelTables

open Cert.KernelIdeal Cert.KernelIdeal.Gen Cert.Block Cert.Tern Idealize.ShloMosaic Idealize.ShloMosaic.TcCoe Idealize.SL.Sem

/-- The row of a block of samples, as numbers. -/
abbrev row (x : FVec Ideal S2048x256 .f32) (r : Fin 2048) : Fin 256 → EReal := fun d => x (ix2 r d)

/-- The signatures of a base row and a table of differences, as numbers. -/
abbrev sigT (b : FVec Ideal S1x256 .f32) (e : FVec Ideal S511x256 .f32) : Fin 512 → Fin 256 → EReal :=
  sig (fun d => b (ix2 0 d)) (fun k d => e (ix2 k d))

/-- The table of products, as numbers. -/
abbrev prods (b : FVec Ideal S1x256 .f32) (e : FVec Ideal S511x256 .f32) : FVec Ideal S512x512 .bf16 := tabP (F := Ideal) b e

/-- The table of offsets, as numbers. -/
abbrev offs (b : FVec Ideal S1x256 .f32) (e : FVec Ideal S511x256 .f32) : FVec Ideal S1x512 .f32 := tabC (F := Ideal) b e

/-- A comparison with zero, made a number, is the positive flag. -/
theorem flag_pos (v : EReal) :
    FloatOps.sitofp (F := Ideal) .f32 (BitVec.setWidth 32 (BitVec.ofBool (decide (0 < v)))) = (((pos v : ℤ) : ℝ) : EReal) := by
  unfold pos
  by_cases h : 0 < v
  · rw [decide_eq_true h, if_pos h]; rfl
  · rw [decide_eq_false h, if_neg h]; rfl

/-- A comparison with zero, made a number, is the negative flag. -/
theorem flag_neg (v : EReal) :
    FloatOps.sitofp (F := Ideal) .f32 (BitVec.setWidth 32 (BitVec.ofBool (decide (v < 0)))) = (((neg v : ℤ) : ℝ) : EReal) := by
  unfold neg
  by_cases h : v < 0
  · rw [decide_eq_true h, if_pos h]; rfl
  · rw [decide_eq_false h, if_neg h]; rfl

/-- The word read as two. -/
theorem two_word : Ideal.ofBits .f32 1073741824#32 = ((2 : ℝ) : EReal) := by
  simp [Ideal.ofBits, Ideal.ieee, ← EReal.coe_mul] <;> norm_num
/-- The word read as minus one. -/
theorem neg_one_word : Ideal.ofBits .f32 3212836864#32 = -1 := by
  simp [Ideal.ofBits, Ideal.ieee, ← EReal.coe_mul] <;> norm_num
/-- The word read as a 512th. -/
theorem step_word : Ideal.ofBits .f32 989855744#32 = ((1 / 512 : ℝ) : EReal) := by
  simp [Ideal.ofBits, Ideal.ieee, ← EReal.coe_mul] <;> norm_num
/-- The word read as 512. -/
theorem scale_word : Ideal.ofBits .f32 1140850688#32 = ((512 : ℝ) : EReal) := by
  simp [Ideal.ofBits, Ideal.ieee, ← EReal.coe_mul] <;> norm_num
/-- The word read as the greatest number. -/
theorem top_word : Ideal.ofBits .f32 2139095040#32 = ⊤ := by
  simp [Ideal.ofBits, Ideal.ieee]

/-- The sign by two selections is the sign. -/
theorem sign_select (a : EReal) :
    (if 0 < FloatOps.absf (F := Ideal) (φ := .f32) a then (if a < 0 then Ideal.ofBits .f32 3212836864#32 else 1) else a)
      = Ideal.sign a := by
  rw [Ideal.absf_def, neg_one_word]
  rcases lt_trichotomy a 0 with h | h | h
  · rw [if_pos ((Ideal.zero_lt_max_neg_iff a).mpr h.ne), if_pos h, Ideal.sign_of_neg h]
  · subst h; rw [if_neg (by simp), Ideal.sign_zero]
  · rw [if_pos ((Ideal.zero_lt_max_neg_iff a).mpr h.ne'), if_neg (not_lt.mpr h.le), Ideal.sign_of_pos h]

/-- The kernel's table of signatures. -/
theorem sig_at (b : FVec Ideal S1x256 .f32) (e : FVec Ideal S511x256 .f32) (k : Fin 512) (d : Fin 256) :
    k0_pay2 (F := Ideal) b e (ix2 k d) = sigT b e k d := by
  pointwise [k0_pay2]
  simp only [sign_select]
  unfold sigT Tern.sig mix
  by_cases h : k.val < 1
  · rw [dif_pos h, dif_pos h]
    have e0 : (⟨k.val, h⟩ : Fin 1) = 0 := Fin.ext (by omega)
    rw [e0]
  · rw [dif_neg h, dif_neg h]

/-- The table of products, in the columns of positive entries. -/
theorem tabP_lo (b : FVec Ideal S1x256 .f32) (e : FVec Ideal S511x256 .f32) (k : Fin 512) (d : Fin 256) :
    prods b e (ix2 k ⟨d.val, by omega⟩) = (((1 - 2 * pos (sigT b e k d) : ℤ) : ℝ) : EReal) := by
  pointwise [prods, tabP, k0_pay4, k0_pay3]
  rw [flag_pos, sig_at, two_word, ← EReal.coe_mul, ← EReal.coe_one, ← EReal.coe_sub]
  refine congrArg (fun r : ℝ => (r : EReal)) ?_
  push_cast
  rfl

/-- The table of products, in the columns of negative entries. -/
theorem tabP_hi (b : FVec Ideal S1x256 .f32) (e : FVec Ideal S511x256 .f32) (k : Fin 512) (d : Fin 256) :
    prods b e (ix2 k ⟨256 + d.val, by omega⟩) = (((1 - 2 * neg (sigT b e k d) : ℤ) : ℝ) : EReal) := by
  pointwise [prods, tabP, k0_pay4, k0_pay3]
  rw [flag_neg, sig_at, two_word, ← EReal.coe_mul, ← EReal.coe_one, ← EReal.coe_sub]
  refine congrArg (fun r : ℝ => (r : EReal)) ?_
  push_cast
  rfl

/-- The table of offsets. -/
theorem tabC_at (b : FVec Ideal S1x256 .f32) (e : FVec Ideal S511x256 .f32) (k : Fin 512) :
    offs b e (ix2 0 k)
      = ((((∑ d, (pos (sigT b e k d) + neg (sigT b e k d)) : ℤ) : ℝ) + (k.val : ℝ) / 512 : ℝ) : EReal) := by
  have hs : ∀ d, FloatOps.absf (F := Ideal) (φ := .f32) (k0_pay2 (F := Ideal) b e (ix2 k d))
      = (((pos (sigT b e k d) + neg (sigT b e k d) : ℤ) : ℝ) : EReal) := fun d => by
    rw [sig_at, Ideal.absf_def]
    have h : ∀ v : EReal, max (Ideal.sign v) (-Ideal.sign v)
        = (((pos (Ideal.sign v) + neg (Ideal.sign v) : ℤ) : ℝ) : EReal) := fun v => by
      rw [abs_sign, pos_sign, neg_sign]
    unfold sigT Tern.sig mix
    split
    · exact h _
    · split
      · exact h _
      · exact h _
  unfold offs tabC
  generalize k0_pay2 (F := Ideal) b e = v at hs ⊢
  change FVec Ideal S512x256 .f32 at v
  have h5 : k0_pay5 v (ix2 0 k) = ∑ d, FloatOps.absf (F := Ideal) (φ := .f32) (v (ix2 k d))
      + FloatOps.sitofp (F := Ideal) .f32 (BitVec.ofNat 32 k.val) * Ideal.ofBits .f32 989855744#32 := by
    pointwise [k0_pay5]
  have hk : FloatOps.sitofp (F := Ideal) .f32 (BitVec.ofNat 32 k.val) = ((k.val : ℝ) : EReal) := by
    show (((BitVec.ofNat 32 k.val).toInt : ℝ) : EReal) = _
    have h := toInt_of (k.val : ℤ) (by omega) (by omega)
    rw [BitVec.ofInt_natCast] at h
    rw [h, Int.cast_natCast]
  rw [h5, hk, step_word, Finset.sum_congr rfl fun d _ => hs d, coe_sum, ← EReal.coe_mul, ← EReal.coe_add]
  refine congrArg (fun r : ℝ => (r : EReal)) ?_
  push_cast
  ring

/-- The flags of a block of samples, in the columns of positive entries. -/
theorem flags_lo (x : FVec Ideal S2048x256 .f32) (r : Fin 2048) (d : Fin 256) :
    k0_pay6 (F := Ideal) x (ix2 r ⟨d.val, by omega⟩) = (((pos (row x r d) : ℤ) : ℝ) : EReal) := by
  pointwise [k0_pay6]
  exact flag_pos _

/-- The flags of a block of samples, in the columns of negative entries. -/
theorem flags_hi (x : FVec Ideal S2048x256 .f32) (r : Fin 2048) (d : Fin 256) :
    k0_pay6 (F := Ideal) x (ix2 r ⟨256 + d.val, by omega⟩) = (((neg (row x r d) : ℤ) : ℝ) : EReal) := by
  pointwise [k0_pay6]
  exact flag_neg _

/-- A row of flags times a row of the table of products, plus the offset: the distance plus a 512th of the number. -/
theorem comb (b : FVec Ideal S1x256 .f32) (e : FVec Ideal S511x256 .f32) (x : FVec Ideal S2048x256 .f32) (r : Fin 2048) (k : Fin 512) :
    offs b e (ix2 0 k) + ∑ j, k0_pay6 (F := Ideal) x (ix2 r j) * prods b e (ix2 k j)
      = (((hamm (row x r) (sigT b e k) : ℤ) : ℝ) + (k.val : ℝ) / 512 : ℝ) := by
  rw [tabC_at, Fin.sum_univ_two_halves 256 256 rfl]
  have h1 : ∀ d : Fin 256, k0_pay6 (F := Ideal) x (ix2 r ⟨d.val, by omega⟩) * prods b e (ix2 k ⟨d.val, by omega⟩)
      = (((pos (row x r d) * (1 - 2 * pos (sigT b e k d)) : ℤ) : ℝ) : EReal) := fun d => by
    rw [flags_lo, tabP_lo, ← EReal.coe_mul, Int.cast_mul]
  have h2 : ∀ d : Fin 256, k0_pay6 (F := Ideal) x (ix2 r ⟨256 + d.val, by omega⟩) * prods b e (ix2 k ⟨256 + d.val, by omega⟩)
      = (((neg (row x r d) * (1 - 2 * neg (sigT b e k d)) : ℤ) : ℝ) : EReal) := fun d => by
    rw [flags_hi, tabP_hi, ← EReal.coe_mul, Int.cast_mul]
  rw [Finset.sum_congr rfl fun d _ => h1 d, Finset.sum_congr rfl fun d _ => h2 d, coe_sum, coe_sum, ← EReal.coe_add,
    ← EReal.coe_add, hamm_split]
  refine congrArg (fun r : ℝ => (r : EReal)) ?_
  push_cast
  ring

end Cert.KernelTables

end
-- ==== Proof.KernelValue.lean ====
module

public import proofs.«01_k».proof.Proof.KernelTables
public import Idealize.ShloMosaic.Lib.Pipeline.ValueKit

/-! What one block of the kernel's results holds over the extended reals: the distances of the block's rows to the
signatures, and of each row the first signature at the least distance. -/

@[expose] public section

set_option maxRecDepth 16384

noncomputable section

namespace Cert.KernelValue

open Cert.KernelIdeal Cert.KernelIdeal.Gen Cert.Block Cert.Tern Cert.KernelTables Idealize.ShloMosaic Idealize.ShloMosaic.TcCoe Idealize.SL.Sem

variable (b : FVec Ideal S1x256 .f32) (e : FVec Ideal S511x256 .f32) (x : FVec Ideal S2048x256 .f32)

/-- A distance plus a 512th of the signature's number, as a real number. -/
def score (D : Fin 512 → ℤ) (k : Fin 512) : ℝ := (D k : ℝ) + (k.val : ℝ) / 512

/-- The number's 512th is at least zero and below one. -/
theorem score_bounds (D : Fin 512 → ℤ) (k : Fin 512) : (D k : ℝ) ≤ score D k ∧ score D k < (D k : ℝ) + 1 := by
  have hk : (k.val : ℝ) < 512 := by exact_mod_cast k.isLt
  have h0 : (0 : ℝ) ≤ k.val := Nat.cast_nonneg _
  unfold score
  constructor
  · have := div_nonneg h0 (by norm_num : (0 : ℝ) ≤ 512)
    linarith
  · have : (k.val : ℝ) / 512 < 1 := by rw [div_lt_one (by norm_num)]; exact hk
    linarith

/-- The first position of a least distance has the least score. -/
theorem score_first (D : Fin 512 → ℤ) (k : Fin 512) (h : IsFirst D k) (j : Fin 512) : score D k ≤ score D j := by
  rcases h j with h | ⟨h, hj⟩
  · have h' : (D k : ℝ) + 1 ≤ D j := by exact_mod_cast h
    linarith [(score_bounds D k).2, (score_bounds D j).1]
  · have hj' : (k.val : ℝ) ≤ j.val := by exact_mod_cast hj
    unfold score
    rw [h]
    linarith [div_le_div_of_nonneg_right hj' (by norm_num : (0 : ℝ) ≤ 512)]

/-- The distances of row `r` of the block. -/
abbrev dists (r : Fin 2048) (k : Fin 512) : ℤ := hamm (row x r) (sigT b e k)

/-- The scores of the first half. -/
theorem lo_at (r : Fin 2048) (k : Fin 256) :
    k0_pay7 (F := Ideal) x (loP (prods b e)) (loC (offs b e)) (ix2 r k)
      = ((score (dists b e x r) ⟨k.val, by omega⟩ : ℝ) : EReal) := by
  have h := comb b e x r ⟨k.val, by omega⟩
  generalize prods b e = P at h ⊢
  generalize offs b e = C at h ⊢
  pointwise [k0_pay7, loP, loC]
  exact h

/-- The scores of the second half. -/
theorem hi_at (r : Fin 2048) (k : Fin 256) :
    k0_pay10 (F := Ideal) x (hiP (prods b e)) (hiC (offs b e)) (ix2 r k)
      = ((score (dists b e x r) ⟨256 + k.val, by omega⟩ : ℝ) : EReal) := by
  have h := comb b e x r ⟨256 + k.val, by omega⟩
  generalize prods b e = P at h ⊢
  generalize offs b e = C at h ⊢
  pointwise [k0_pay10, hiP, hiC]
  exact h

/-- A score cut to an integer is its distance. -/
theorem trunc_score (r : Fin 2048) (k : Fin 512) :
    Ideal.fptosi 32 ((score (dists b e x r) k : ℝ) : EReal) = BitVec.ofInt 32 (dists b e x r k) :=
  fptosi_of _ _ (hamm_bounds _ _).1 (hamm_bounds _ _).2 (score_bounds _ _).1 (score_bounds _ _).2

/-- The stored distances of the first half. -/
theorem payLo (r : Fin 2048) (k : Fin 512) (z : S2048x256.Idx) (h0 : r.val = (z 0).val) (h1 : k.val = (z 1).val)
    (hz1 : (z 1).val < 256) :
    k0_pay8 (F := Ideal) x (loP (prods b e)) (loC (offs b e)) z = BitVec.ofInt 32 (dists b e x r k) := by
  have hz : z = ix2 r (⟨(z 1).val, hz1⟩ : Fin 256) := by
    funext a
    match a with
    | ⟨0, _⟩ => exact Fin.ext h0.symm
    | ⟨1, _⟩ => rfl
  have h := lo_at b e x r ⟨(z 1).val, hz1⟩
  have hk : (⟨(z 1).val, by omega⟩ : Fin 512) = k := Fin.ext h1.symm
  rw [hk] at h
  rw [hz]
  generalize loP (F := Ideal) (prods b e) = P at h ⊢
  generalize loC (F := Ideal) (offs b e) = C at h ⊢
  generalize (⟨(z 1).val, hz1⟩ : Fin 256) = j at h ⊢
  pointwise [k0_pay8]
  rw [h]
  exact trunc_score b e x r k

/-- The stored distances of the second half. -/
theorem payHi (r : Fin 2048) (k : Fin 512) (z : S2048x256.Idx) (h0 : r.val = (z 0).val) (h1 : k.val = 256 + (z 1).val)
    (hz1 : (z 1).val < 256) :
    k0_pay11 (F := Ideal) x (hiP (prods b e)) (hiC (offs b e)) z = BitVec.ofInt 32 (dists b e x r k) := by
  have hz : z = ix2 r (⟨(z 1).val, hz1⟩ : Fin 256) := by
    funext a
    match a with
    | ⟨0, _⟩ => exact Fin.ext h0.symm
    | ⟨1, _⟩ => rfl
  have h := hi_at b e x r ⟨(z 1).val, hz1⟩
  have hk : (⟨256 + (z 1).val, by omega⟩ : Fin 512) = k := Fin.ext h1.symm
  rw [hk] at h
  rw [hz]
  generalize hiP (F := Ideal) (prods b e) = P at h ⊢
  generalize hiC (F := Ideal) (offs b e) = C at h ⊢
  generalize (⟨(z 1).val, hz1⟩ : Fin 256) = j at h ⊢
  pointwise [k0_pay11]
  rw [h]
  exact trunc_score b e x r k

/-- The block of distances. -/
theorem outD_at (r : Fin 2048) (k : Fin 512) :
    outD (F := Ideal) x (prods b e) (offs b e) (ix2 r k) = BitVec.ofInt 32 (dists b e x r k) := by
  unfold outD
  canon_tiles z h
  · exact payHi b e x r k z h0 h1 z1_lt
  · exact payLo b e x r k z h0 h1 z1_lt

/-- The least of the scores, taken half by half, is the score of the first position of a least distance. -/
theorem least (D : Fin 512 → ℤ) (k : Fin 512) (hk : IsFirst D k) :
    min (Finset.fold min (⊤ : EReal) (fun j : Fin 256 => ((score D ⟨j.val, by omega⟩ : ℝ) : EReal)) Finset.univ)
        (Finset.fold min (⊤ : EReal) (fun j : Fin 256 => ((score D ⟨256 + j.val, by omega⟩ : ℝ) : EReal)) Finset.univ)
      = ((score D k : ℝ) : EReal) := by
  apply le_antisymm
  · by_cases h : k.val < 256
    · refine (min_le_left _ _).trans (Finset.fold_min_le _ |>.mpr (.inr ⟨⟨k.val, h⟩, Finset.mem_univ _, le_refl _⟩))
    · refine (min_le_right _ _).trans (Finset.fold_min_le _ |>.mpr (.inr ⟨⟨k.val - 256, by omega⟩, Finset.mem_univ _, ?_⟩))
      have e : (⟨256 + (k.val - 256), by omega⟩ : Fin 512) = k := Fin.ext (by show 256 + (k.val - 256) = k.val; omega)
      show ((score D ⟨256 + (k.val - 256), _⟩ : ℝ) : EReal) ≤ _
      rw [e]
  · refine le_min ?_ ?_ <;>
      exact Finset.le_fold_min _ |>.mpr ⟨le_top, fun j _ => EReal.coe_le_coe_iff.mpr (score_first D k hk _)⟩

/-- The least score, less its integer part, times 512, is the position. -/
theorem decode (D : Fin 512 → ℤ) (h0 : ∀ k, 0 ≤ D k) (h1 : ∀ k, D k ≤ 512) (k : Fin 512) :
    Ideal.fptosi 32 ((((score D k : ℝ) : EReal)
        - FloatOps.sitofp (F := Ideal) .f32 (Ideal.fptosi 32 ((score D k : ℝ) : EReal))) * ((512 : ℝ) : EReal))
      = BitVec.ofNat 32 k.val := by
  rw [fptosi_of (D k) _ (h0 k) (h1 k) (score_bounds D k).1 (score_bounds D k).2]
  have hs : FloatOps.sitofp (F := Ideal) .f32 (BitVec.ofInt 32 (D k)) = ((D k : ℝ) : EReal) := by
    show (((BitVec.ofInt 32 (D k)).toInt : ℝ) : EReal) = _
    rw [toInt_of (D k) (h0 k) (h1 k)]
  rw [hs, ← EReal.coe_sub, ← EReal.coe_mul, show (score D k - D k) * 512 = ((k.val : ℤ) : ℝ) by
    unfold score; push_cast; ring]
  rw [fptosi_of (k.val : ℤ) _ (by omega) (by omega) (le_refl _) (by linarith), BitVec.ofInt_natCast]

/-- The conversion of a number to an integer word. -/
theorem fptosi_def (v : EReal) : FloatOps.fptosi (F := Ideal) (φ := .f32) 32 v = Ideal.fptosi 32 v := rfl

/-- The block of nearest signatures. -/
theorem outI_at (r : Fin 8) (t : Fin 256) (k : Fin 512) (hk : IsFirst (dists b e x ⟨r.val * 256 + t.val, by omega⟩) k) :
    outI (F := Ideal) x (prods b e) (offs b e) (ix2 r t) = BitVec.ofNat 32 k.val := by
  have hl := least _ k hk
  have hlo := lo_at b e x ⟨r.val * 256 + t.val, by omega⟩
  have hhi := hi_at b e x ⟨r.val * 256 + t.val, by omega⟩
  have hd := decode (dists b e x ⟨r.val * 256 + t.val, by omega⟩) (fun _ => (hamm_bounds _ _).1) (fun _ => (hamm_bounds _ _).2) k
  generalize dists b e x ⟨r.val * 256 + t.val, by omega⟩ = D at *
  generalize prods b e = P at *
  generalize offs b e = C at *
  pointwise [outI, k0_pay1, k0_pay9, k0_pay12]
  simp only [hlo, hhi, top_word, scale_word, fptosi_def]
  rw [hl]
  exact hd

end Cert.KernelValue

end
-- ==== Proof.RefValue.lean ====
module

public import proofs.«01_k».proof.Proof.Tern
public import proofs.«01_k».proof.Proof.RefRun
public import Idealize.ShloMosaic.Lib.Pointwise
public import Idealize.ShloMosaic.Lib.ValueIdx
public import Idealize.ShloMosaic.Lib.Pipeline.ValueKit

/-! What the reference's distances are over the extended reals: its bits are the two flags of each sign side by side, its
signatures the mixed signs, and its distances the Hamming distances. -/

@[expose] public section

set_option maxRecDepth 16384

noncomputable section

namespace Cert.RefValue

open Cert.ReferenceIdeal Cert.ReferenceIdeal.Gen Cert.RefRun Cert.Tern Idealize.ShloMosaic Idealize.ShloMosaic.TcCoe Idealize.SL.Sem

/-- Row `t` of group `a` of the samples, as numbers. -/
abbrev row (x : FVec Ideal S32x256x256 .f32) (a : Fin 32) (t : Fin 256) : Fin 256 → EReal := fun d => x (ix3 a t d)

/-- The signatures of a base and a table of differences, as numbers. -/
abbrev sigT (b : FVec Ideal S256 .f32) (e : FVec Ideal S511x256 .f32) : Fin 512 → Fin 256 → EReal :=
  Tern.sig (fun d => b (ix1 d)) (fun k d => e (ix2 k d))

/-- Bit `s` of a number: the positive flag, then the negative one. -/
def bit (v : EReal) (s : ℕ) : ℤ := if s < 1 then pos v else neg v

/-- A sign's flags are its number's. -/
theorem bit_sign (v : EReal) (s : ℕ) : bit (Ideal.sign v) s = bit v s := by
  unfold bit; rw [pos_sign, neg_sign]

/-- A comparison with zero, made a number, is the positive flag. -/
theorem flag_pos (v : EReal) :
    FloatOps.uitofp (F := Ideal) .f32 (BitVec.ofBool (decide (0 < v))) = (((pos v : ℤ) : ℝ) : EReal) := by
  unfold pos
  by_cases h : 0 < v
  · rw [decide_eq_true h, if_pos h]; show (((1 : ℕ) : ℝ) : EReal) = _; norm_num
  · rw [decide_eq_false h, if_neg h]; show (((0 : ℕ) : ℝ) : EReal) = _; norm_num

/-- A comparison with zero, made a number, is the negative flag. -/
theorem flag_neg (v : EReal) :
    FloatOps.uitofp (F := Ideal) .f32 (BitVec.ofBool (decide (v < 0))) = (((neg v : ℤ) : ℝ) : EReal) := by
  unfold neg
  by_cases h : v < 0
  · rw [decide_eq_true h, if_pos h]; show (((1 : ℕ) : ℝ) : EReal) = _; norm_num
  · rw [decide_eq_false h, if_neg h]; show (((0 : ℕ) : ℝ) : EReal) = _; norm_num

/-- The bits of the rows. -/
theorem xBits_at (x : FVec Ideal S32x256x256 .f32) (a : Fin 32) (t : Fin 256) (j : Fin 512) :
    xBits x (ix2 ⟨a.val * 256 + t.val, by omega⟩ j) = (((bit (row x a t ⟨j.val / 2, by omega⟩) (j.val % 2) : ℤ) : ℝ) : EReal) := by
  pointwise [xBits, stackX, posX, negX]
  rw [← bit_sign]
  unfold bit
  by_cases h : j.val % 2 < 1
  · rw [dif_pos h, if_pos h]; exact flag_pos _
  · rw [dif_neg h, if_neg h]; exact flag_neg _

/-- The signatures. -/
theorem sigs_at (b : FVec Ideal S256 .f32) (e : FVec Ideal S511x256 .f32) (k : Fin 512) (d : Fin 256) :
    sigs b e (ix2 k d) = sigT b e k d := by
  pointwise [sigs, sigRows, baseRow, stackRows]
  simp only [Ideal.absf_def, mix_eq]
  rfl

/-- The bits of the signatures. -/
theorem sBits_at (s : FVec Ideal S512x256 .f32) (k : Fin 512) (j : Fin 512) :
    sBits s (ix2 k j) = (((bit (s (ix2 k ⟨j.val / 2, by omega⟩)) (j.val % 2) : ℤ) : ℝ) : EReal) := by
  pointwise [sBits, stackS]
  unfold bit
  by_cases h : j.val % 2 < 1
  · rw [dif_pos h, if_pos h]; exact flag_pos _
  · rw [dif_neg h, if_neg h]; exact flag_neg _

/-- A sum over the 512 interleaved bits is a sum over the 256 entries. -/
theorem sum_pairs (f : Fin 256 → ℕ → ℤ) :
    ∑ j : Fin 512, f ⟨j.val / 2, by omega⟩ (j.val % 2) = ∑ d : Fin 256, (f d 0 + f d 1) := by
  have h := Fin.sum_univ_mul_divNat_modNat 256 2 (fun d s => f d s.val)
  refine Eq.trans ?_ (h.trans (Finset.sum_congr rfl fun d _ => by rw [Fin.sum_univ_two]; rfl))
  rfl

/-- The two numbers of bits less twice the number of shared ones is the Hamming distance. -/
theorem hamm_bits (u v : Fin 256 → EReal) :
    (∑ j : Fin 512, bit (u ⟨j.val / 2, by omega⟩) (j.val % 2)) + (∑ j : Fin 512, bit (v ⟨j.val / 2, by omega⟩) (j.val % 2))
      - 2 * ∑ j : Fin 512, bit (u ⟨j.val / 2, by omega⟩) (j.val % 2) * bit (v ⟨j.val / 2, by omega⟩) (j.val % 2)
      = hamm u v := by
  rw [sum_pairs fun d s => bit (u d) s, sum_pairs fun d s => bit (v d) s, sum_pairs fun d s => bit (u d) s * bit (v d) s,
    Finset.mul_sum, ← Finset.sum_add_distrib, ← Finset.sum_sub_distrib]
  exact Finset.sum_congr rfl fun d _ => rfl

/-- The word read as two. -/
theorem two_word : Ideal.ofBits .f32 1073741824#32 = ((2 : ℝ) : EReal) := by
  simp [Ideal.ofBits, Ideal.ieee, ← EReal.coe_mul] <;> norm_num

/-- The distances, as numbers. -/
theorem distF_at (x : FVec Ideal S32x256x256 .f32) (s : FVec Ideal S512x256 .f32) (a : Fin 32) (t : Fin 256) (k : Fin 512) :
    distF (xBits x) (sBits s) (ix2 ⟨a.val * 256 + t.val, by omega⟩ k)
      = (((hamm (row x a t) (fun d => s (ix2 k d)) : ℤ) : ℝ) : EReal) := by
  have hx := xBits_at x a t
  have hs := sBits_at s k
  generalize xBits x = X at hx ⊢
  generalize sBits s = Y at hs ⊢
  pointwise [distF]
  simp only [hx, hs, two_word, ← EReal.coe_mul, ← Int.cast_mul]
  rw [coe_sum, coe_sum, coe_sum, ← EReal.coe_add, ← EReal.coe_mul, ← EReal.coe_sub, ← hamm_bits]
  refine congrArg (fun r : ℝ => (r : EReal)) ?_
  push_cast
  rfl

/-- The distances. -/
theorem dist_at (x : FVec Ideal S32x256x256 .f32) (b : FVec Ideal S256 .f32) (e : FVec Ideal S511x256 .f32)
    (a : Fin 32) (t : Fin 256) (k : Fin 512) :
    RefRun.dist x b e (ix3 a t k) = BitVec.ofInt 32 (hamm (row x a t) (sigT b e k)) := by
  have h := distF_at x (sigs b e) a t k
  simp only [sigs_at] at h
  pointwise [RefRun.dist]
  rw [h]
  exact fptosi_of _ _ (hamm_bounds _ _).1 (hamm_bounds _ _).2 (le_refl _) (by linarith)

end Cert.RefValue

end
-- ==== Proof.ArgMin.lean ====
module

public import proofs.«01_k».proof.Proof.Tern
public import proofs.«01_k».proof.Proof.RefRun
public import Idealize.ShloMosaic.PureOps.Reduce
public import Idealize.ShloMosaic.Lib.Pointwise
public import Idealize.ShloMosaic.Lib.ValueIdx

/-! The reference's argument-minimum reduction: folding the pairs (distance, position) by keeping the earlier of the smaller
ends with the first position of the least distance. -/

@[expose] public section

set_option maxRecDepth 16384

noncomputable section

namespace Cert.ArgMin

open Cert.ReferenceIdeal Cert.ReferenceIdeal.Gen Cert.RefRun Cert.Tern Idealize.ShloMosaic Idealize.ShloMosaic.TcCoe Idealize.SL.Sem

/-- Pair `a` comes before pair `b`: a smaller value, or an equal value and a smaller position. -/
def Before (a b : BitVec 32 × BitVec 32) : Prop :=
  a.1.toInt < b.1.toInt ∨ a.1.toInt = b.1.toInt ∧ a.2.toInt < b.2.toInt

/-- The reduction's body keeps the one that comes before. -/
theorem body_cases (a b : BitVec 32 × BitVec 32) :
    (Before a b ∧ reducer_argmin_i32_i32 a b = a) ∨ (¬ Before a b ∧ reducer_argmin_i32_i32 a b = b) := by
  obtain ⟨a1, a2⟩ := a
  obtain ⟨b1, b2⟩ := b
  have ob : ∀ c : Bool, 1#1 ||| BitVec.ofBool c = 1#1 := by decide
  unfold Before reducer_argmin_i32_i32
  simp only [IntOp.cmpi, IntOp.ori, IntOp.andi, Scalar.select, BitVec.slt]
  by_cases h1 : a1.toInt < b1.toInt
  · left
    refine ⟨.inl h1, ?_⟩
    simp [h1, ob]
  · by_cases h2 : a1 = b1
    · subst h2
      by_cases h3 : a2.toInt < b2.toInt
      · left
        refine ⟨.inr ⟨rfl, h3⟩, ?_⟩
        simp [h3]
      · right
        refine ⟨fun h => h.elim h1 fun h => h3 h.2, ?_⟩
        simp [h3]
    · right
      refine ⟨fun h => h.elim h1 fun h => h2 (BitVec.eq_of_toInt_eq h.1), ?_⟩
      simp [h1, beq_eq_false_iff_ne.mpr h2]

/-- What the fold ends with comes from the list or is the initial pair, and nothing of them comes before it. -/
theorem fold_least (L : List (BitVec 32 × BitVec 32)) : ∀ i : BitVec 32 × BitVec 32,
    (L.foldl reducer_argmin_i32_i32 i = i ∨ L.foldl reducer_argmin_i32_i32 i ∈ L)
      ∧ ¬ Before i (L.foldl reducer_argmin_i32_i32 i) ∧ ∀ p ∈ L, ¬ Before p (L.foldl reducer_argmin_i32_i32 i) := by
  induction L with
  | nil => intro i; refine ⟨.inl rfl, ?_, by simp⟩; unfold Before; simp only [List.foldl_nil]; omega
  | cons q L ih =>
    intro i
    obtain ⟨hm, hi, hp⟩ := ih (reducer_argmin_i32_i32 i q)
    rw [List.foldl_cons]
    generalize L.foldl reducer_argmin_i32_i32 (reducer_argmin_i32_i32 i q) = R at *
    rcases body_cases i q with ⟨hb, he⟩ | ⟨hb, he⟩ <;> rw [he] at hm hi
    · refine ⟨hm.imp id (List.mem_cons_of_mem _), hi, fun p hpm => ?_⟩
      rcases List.mem_cons.mp hpm with rfl | hpm
      · unfold Before at *; omega
      · exact hp p hpm
    · refine ⟨?_, ?_, fun p hpm => ?_⟩
      · rcases hm with rfl | hm
        · exact .inr (List.mem_cons_self ..)
        · exact .inr (List.mem_cons_of_mem _ hm)
      · unfold Before at *; omega
      · rcases List.mem_cons.mp hpm with rfl | hpm
        · exact hi
        · exact hp p hpm

/-- The place a dropped place comes from has its first two coordinates. -/
theorem drop_iff (i : S32x256x512.Idx) (a : Fin 32) (t : Fin 256) :
    reducesTo_S32x256x512_S32x256_d2.drop i = ix2 a t ↔ (i 0).val = a.val ∧ (i 1).val = t.val := by
  have h0 : (reducesTo_S32x256x512_S32x256_d2.drop i 0).val = (i 0).val :=
    Shape.ReducesTo.drop_apply_val_of_eq reducesTo_S32x256x512_S32x256_d2 i 0 0
  have h1 : (reducesTo_S32x256x512_S32x256_d2.drop i 1).val = (i 1).val :=
    Shape.ReducesTo.drop_apply_val_of_eq reducesTo_S32x256x512_S32x256_d2 i 1 1
  constructor
  · intro h
    rw [h] at h0 h1
    exact ⟨h0.symm, h1.symm⟩
  · rintro ⟨e0, e1⟩
    funext c
    match c with
    | ⟨0, _⟩ => exact Fin.ext (h0.trans e0)
    | ⟨1, _⟩ => exact Fin.ext (h1.trans e1)

/-- The pairs the reduction folds over at a row. -/
theorem mem_fiber (y p2 : IVec S32x256x512 32) (a : Fin 32) (t : Fin 256) (p : BitVec 32 × BitVec 32) :
    p ∈ Host.argReduceFiber y p2 reducesTo_S32x256x512_S32x256_d2 (ix2 a t)
      ↔ ∃ j : Fin 512, p = (y (ix3 a t j), p2 (ix3 a t j)) := by
  unfold Host.argReduceFiber
  simp only [List.mem_map, List.mem_filter, List.mem_finRange, true_and, decide_eq_true_eq]
  constructor
  · rintro ⟨n, hd, rfl⟩
    generalize S32x256x512.rowMajor.symm n = i at hd ⊢
    obtain ⟨e0, e1⟩ := (drop_iff i a t).mp hd
    refine ⟨⟨(i 2).val, (i 2).isLt⟩, ?_⟩
    have hi : i = ix3 a t ⟨(i 2).val, (i 2).isLt⟩ := by
      funext c
      match c with
      | ⟨0, _⟩ => exact Fin.ext e0
      | ⟨1, _⟩ => exact Fin.ext e1
      | ⟨2, _⟩ => rfl
    exact congrArg (fun i => (y i, p2 i)) hi
  · rintro ⟨j, rfl⟩
    have hs : S32x256x512.rowMajor.symm (S32x256x512.rowMajor (ix3 a t j)) = ix3 a t j := Equiv.symm_apply_apply _ _
    refine ⟨S32x256x512.rowMajor (ix3 a t j), ?_, ?_⟩
    · rw [hs]; exact (drop_iff _ a t).mpr ⟨rfl, rfl⟩
    · rw [hs]

/-- The greatest word, read as a signed integer. -/
theorem max_word : (2147483647#32 : BitVec 32).toInt = 2147483647 := by decide

/-- Folding pairs of distances and positions, each position once, ends with the first position of the least distance. -/
theorem fold_first (D : Fin 512 → ℤ) (h0 : ∀ k, 0 ≤ D k) (h1 : ∀ k, D k ≤ 512) (k : Fin 512) (hk : IsFirst D k)
    (L : List (BitVec 32 × BitVec 32)) (hL : ∀ p, p ∈ L ↔ ∃ j : Fin 512, p = (BitVec.ofInt 32 (D j), BitVec.ofNat 32 j.val)) :
    (L.foldl reducer_argmin_i32_i32 (2147483647#32, 0#32)).2 = BitVec.ofNat 32 k.val := by
  have hn : ∀ k : Fin 512, (BitVec.ofNat 32 k.val).toInt = k.val := fun k => by
    have h := toInt_of (k.val : ℤ) (by omega) (by omega)
    rwa [BitVec.ofInt_natCast] at h
  obtain ⟨hm, hb, hp⟩ := fold_least L (2147483647#32, 0#32)
  generalize L.foldl reducer_argmin_i32_i32 (2147483647#32, 0#32) = R at *
  have hkR := hp _ ((hL _).mpr ⟨k, rfl⟩)
  unfold Before at hkR
  simp only [toInt_of _ (h0 k) (h1 k), hn] at hkR
  have hk1 := h1 k
  rcases hm with rfl | hm
  · exfalso
    apply hkR
    left
    rw [max_word]
    omega
  · obtain ⟨j, rfl⟩ := (hL _).mp hm
    simp only [toInt_of _ (h0 j) (h1 j), hn] at hkR
    have hj := hk j
    rw [Fin.le_def] at hj
    have : j.val = k.val := by omega
    show BitVec.ofNat 32 j.val = _
    rw [this]

/-- A constant array at any place. -/
theorem const_at (v : BitVec 32) (i : S_.Idx) : constantI S_ 32 v i = v := rfl

/-- The array of positions along the last axis. -/
theorem iota_at (a : Fin 32) (t : Fin 256) (j : Fin 512) :
    iotaInDim S32x256x512 32 2 (ix3 a t j) = BitVec.ofNat 32 j.val := by
  pointwise

/-- The pair the reduction ends with at each row is the fold over that row's pairs. -/
theorem pairs (y : IVec S32x256x512 32) (j : S32x256.Idx) :
    Host.reduce2 reducer_argmin_i32_i32 y (iotaInDim S32x256x512 32 2) (constantI S_ 32 2147483647#32) (constantI S_ 32 0#32)
      reducesTo_S32x256x512_S32x256_d2 h_S_ j
      = (Host.argReduceFiber y (iotaInDim S32x256x512 32 2) reducesTo_S32x256x512_S32x256_d2 j).foldl reducer_argmin_i32_i32
        (2147483647#32, 0#32) := by
  rw [Host.reduce2_eq_foldl_fiber, const_at, const_at]

/-- The first result is the second member of those pairs. -/
theorem argMin_eq (y : IVec S32x256x512 32) :
    argMin y = fun j =>
      (Host.reduce2 reducer_argmin_i32_i32 y (iotaInDim S32x256x512 32 2) (constantI S_ 32 2147483647#32) (constantI S_ 32 0#32)
        reducesTo_S32x256x512_S32x256_d2 h_S_ j).2 := rfl

/-- The first result, where the distances of a row are `D`: the first position of the least. -/
theorem argMin_at (y : IVec S32x256x512 32) (D : Fin 512 → ℤ) (h0 : ∀ k, 0 ≤ D k) (h1 : ∀ k, D k ≤ 512)
    (a : Fin 32) (t : Fin 256) (hy : ∀ k, y (ix3 a t k) = BitVec.ofInt 32 (D k)) (k : Fin 512) (hk : IsFirst D k) :
    argMin y (ix2 a t) = BitVec.ofNat 32 k.val := by
  refine (congrFun (argMin_eq y) (ix2 a t)).trans ((congrArg Prod.snd (pairs y (ix2 a t))).trans ?_)
  refine fold_first D h0 h1 k hk _ fun p => ?_
  rw [mem_fiber]
  refine exists_congr fun j => ?_
  rw [hy, iota_at]

end Cert.ArgMin

end
-- ==== Proof.Equation.lean ====
module

public import proofs.«01_k».proof.Proof.KernelRun
public import proofs.«01_k».proof.Proof.KernelValue
public import proofs.«01_k».proof.Proof.RefValue
public import proofs.«01_k».proof.Proof.ArgMin

/-! Both results of the kernel equal the reference's, over the extended reals: the distances are the same Hamming distances,
and the nearest signature of each row is the first at the least distance. -/

@[expose] public section

set_option maxRecDepth 16384

noncomputable section

namespace Cert.Equation

open Cert.KernelIdeal Cert.KernelIdeal.Gen Cert.Block Cert.KernelRun Cert.Tern Idealize.ShloMosaic Idealize.ShloMosaic.TcCoe Idealize.SL.Sem

variable (x : FVec Ideal S32x256x256 .f32) (b : FVec Ideal S256 .f32) (e : FVec Ideal S511x256 .f32)

/-- The samples as 8192 rows. -/
abbrev flatX : FVec Ideal S8192x256 .f32 := shapeCast S8192x256 x shapeCasts_S32x256x256_S8192x256

/-- The base as one row. -/
abbrev flatB : FVec Ideal S1x256 .f32 := shapeCast S1x256 b shapeCasts_S256_S1x256

/-- A row of a grid point's block of samples is the row of the samples it comes from. -/
theorem row_eq (p : ℕ) (r : Fin 2048) (a : Fin 32) (t : Fin 256) (h : 2048 * p + r.val = a.val * 256 + t.val) :
    KernelTables.row (rowsAt (F := Ideal) (flatX x) p) r = RefValue.row x a t := by
  funext d
  show flatX x (ix2 ⟨(2048 * p + r.val) % 8192, _⟩ ⟨d.val, _⟩) = x (ix3 a t d)
  have hr : (⟨(2048 * p + r.val) % 8192, Nat.mod_lt _ (by decide)⟩ : Fin 8192) = ⟨a.val * 256 + t.val, by omega⟩ :=
    Fin.ext (by show (2048 * p + r.val) % 8192 = a.val * 256 + t.val; omega)
  rw [hr]
  pointwise [flatX]

/-- The signatures of the base as one row are those of the base. -/
theorem sig_eq : KernelTables.sigT (flatB b) e = RefValue.sigT b e := by
  have h : (fun d => flatB b (ix2 0 d)) = fun d => b (ix1 d) := by
    funext d
    pointwise [flatB]
  unfold KernelTables.sigT RefValue.sigT
  rw [h]

/-- The distances of the two programs agree. -/
theorem dist_eq :
    shapeCast S32x256x512 (arrD (F := Ideal) (flatX x) (tabP (F := Ideal) (flatB b) e) (tabC (F := Ideal) (flatB b) e)) shapeCasts_S8192x512_S32x256x512
      = RefRun.dist x b e := by
  have hP : KernelTables.prods (flatB b) e = tabP (F := Ideal) (flatB b) e := rfl
  have hC : KernelTables.offs (flatB b) e = tabC (F := Ideal) (flatB b) e := rfl
  rw [← hP, ← hC]
  have hd : ∀ (a : Fin 32) (t : Fin 256) (k : Fin 512),
      arrD (F := Ideal) (flatX x) (KernelTables.prods (flatB b) e) (KernelTables.offs (flatB b) e) (ix2 ⟨a.val * 256 + t.val, by omega⟩ k)
        = RefRun.dist x b e (ix3 a t k) := fun a t k => by
    rw [RefValue.dist_at, ← sig_eq, arrD_at _ _ _ _ ((a.val * 256 + t.val) / 2048)
      (ix2 (⟨(a.val * 256 + t.val) % 2048, Nat.mod_lt _ (by decide)⟩ : Fin 2048) k) (Nat.mod_lt _ (by decide))
      (by show a.val * 256 + t.val = 2048 * ((a.val * 256 + t.val) / 2048) + (a.val * 256 + t.val) % 2048; omega) rfl,
      KernelValue.outD_at]
    unfold KernelValue.dists
    rw [row_eq x _ _ a t (by show 2048 * ((a.val * 256 + t.val) / 2048) + (a.val * 256 + t.val) % 2048 = _; omega)]
  generalize arrD (F := Ideal) (flatX x) (KernelTables.prods (flatB b) e) (KernelTables.offs (flatB b) e) = A at hd ⊢
  change IVec S8192x512 32 at A
  generalize RefRun.dist x b e = B at hd ⊢
  funext i
  have hi : i = ix3 (⟨(i 0).val, (i 0).isLt⟩ : Fin 32) (⟨(i 1).val, (i 1).isLt⟩ : Fin 256) (⟨(i 2).val, (i 2).isLt⟩ : Fin 512) := by
    funext c
    match c with
    | ⟨0, _⟩ => rfl
    | ⟨1, _⟩ => rfl
    | ⟨2, _⟩ => rfl
  rw [hi, ← hd]
  generalize (⟨(i 0).val, (i 0).isLt⟩ : Fin 32) = a
  generalize (⟨(i 1).val, (i 1).isLt⟩ : Fin 256) = t
  generalize (⟨(i 2).val, (i 2).isLt⟩ : Fin 512) = k
  pointwise

/-- The nearest signatures of the two programs agree. -/
theorem index_eq :
    arrI (F := Ideal) (flatX x) (tabP (F := Ideal) (flatB b) e) (tabC (F := Ideal) (flatB b) e)
      = RefRun.argMin (RefRun.dist x b e) := by
  have hP : KernelTables.prods (flatB b) e = tabP (F := Ideal) (flatB b) e := rfl
  have hC : KernelTables.offs (flatB b) e = tabC (F := Ideal) (flatB b) e := rfl
  rw [← hP, ← hC]
  have hd : ∀ (a : Fin 32) (t : Fin 256),
      arrI (F := Ideal) (flatX x) (KernelTables.prods (flatB b) e) (KernelTables.offs (flatB b) e) (ix2 a t)
        = RefRun.argMin (RefRun.dist x b e) (ix2 a t) := fun a t => by
    obtain ⟨k, hk⟩ := exists_first fun k => hamm (RefValue.row x a t) (RefValue.sigT b e k)
    rw [ArgMin.argMin_at _ _ (fun k => (hamm_bounds _ _).1) (fun k => (hamm_bounds _ _).2) a t
      (fun k => RefValue.dist_at x b e a t k) k hk]
    rw [arrI_at _ _ _ _ (a.val / 8) (ix2 (⟨a.val % 8, Nat.mod_lt _ (by decide)⟩ : Fin 8) t) (Nat.mod_lt _ (by decide))
      (by show a.val = 8 * (a.val / 8) + a.val % 8; omega) rfl]
    apply KernelValue.outI_at
    have hr := row_eq x (a.val / 8) ⟨a.val % 8 * 256 + t.val, by omega⟩ a t
      (by show 2048 * (a.val / 8) + (a.val % 8 * 256 + t.val) = _; omega)
    rw [← sig_eq, ← hr] at hk
    exact hk
  generalize arrI (F := Ideal) (flatX x) (KernelTables.prods (flatB b) e) (KernelTables.offs (flatB b) e) = A at hd ⊢
  change IVec S32x256 32 at A
  generalize RefRun.argMin (RefRun.dist x b e) = B at hd ⊢
  funext i
  have hi : i = ix2 (⟨(i 0).val, (i 0).isLt⟩ : Fin 32) (⟨(i 1).val, (i 1).isLt⟩ : Fin 256) := by
    funext c
    match c with
    | ⟨0, _⟩ => rfl
    | ⟨1, _⟩ => rfl
  rw [hi]
  exact hd _ _

end Cert.Equation

end
-- ==== Proof.lean ====
/- The certificate: the three programs' frames, the idealized kernel's rewriting of the sign bit, and the equality of both
   results of the kernel and of the reference over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.KernelRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Over the extended reals the kernel and the reference leave the same distances and the same nearest signatures. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelRun.arrI (Cert.KernelRun.argX m c) (Cert.Block.tabP (Cert.KernelRun.argB m c) (Cert.KernelRun.argD m c))
      (Cert.Block.tabC (Cert.KernelRun.argB m c) (Cert.KernelRun.argD m c)), _, Cert.KernelRun.run m g, ?_⟩
  refine (θ_run Cert.ReferenceIdeal.defs _ _).mono (fun r h c => ?_) (Cert.RefRun.run m' g')
  obtain ⟨h0, h1, h2⟩ := hargs c
  obtain ⟨r0, r1, ra⟩ := h c
  rw [h0, h1, h2] at r0 r1
  exact ⟨r0.trans (Cert.Equation.index_eq _ _ _).symm, r1.trans (Cert.Equation.dist_eq _ _ _).symm, ra⟩

/-- The certificate. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m g _ => Cert.RefRun.frame m g,
  ⟨IdealRules.sign_bit.statement _ _, IdealRules.sign_bit.statement _ _⟩,
  algebraic⟩

end Cert.Proof

end
